-- ==== Defs.lean ====
def Pre_Kernel [hPre_graph_names_graphs : Cert.Pre_graph_names_graphs.Facts] (m : (ℓ : Loc Cert.Kernel.nD Cert.Kernel.τ Cert.Kernel.sig) → Buf (Elt Bits) ℓ) : Prop :=
  ∀ c : Dev Cert.Kernel.nD,
    (Cert.Pre_graph_names_graphs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_graph_names_graphs : Cert.Pre_graph_names_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_graph_names_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_names_graphs [hPre_graph_names_graphs : Cert.Pre_graph_names_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_names_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_graph_names_graphs : Cert.Pre_graph_names_graphs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_graph_names_graphs : Cert.Pre_graph_names_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_graph_names_graphs [hReferenceIdeal : Cert.ReferenceIdeal.Facts] [hPre_graph_names_graphs : Cert.Pre_graph_names_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_names_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_graph_names_graphs : Cert.Pre_graph_names_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_graph_names_graphs : Cert.Pre_graph_names_graphs.Facts),
    quiescent_Kernel (hKernel := hKernel) (hPre_graph_names_graphs := hPre_graph_names_graphs)
    ∧ quiescent_KernelIdeal (hKernelIdeal := hKernelIdeal) (hPre_graph_names_graphs := hPre_graph_names_graphs)
    ∧ quiescent_ReferenceIdeal (hReferenceIdeal := hReferenceIdeal)
    ∧ quiescent_ReferenceIdeal_pre_graph_names_graphs (hReferenceIdeal := hReferenceIdeal) (hPre_graph_names_graphs := hPre_graph_names_graphs)
    ∧ preserves_Kernel_KernelIdeal
    ∧ algebraic_KernelIdeal_ReferenceIdeal (hKernelIdeal := hKernelIdeal) (hReferenceIdeal := hReferenceIdeal) (hPre_graph_names_graphs := hPre_graph_names_graphs)
-- ==== Pre_graph_names_graphs.lean ====
abbrev S4x1 : Shape := ⟨2, ![4, 1]⟩
abbrev S4x1024 : Shape := ⟨2, ![4, 1024]⟩
abbrev S8x1024x128 : Shape := ⟨3, ![8, 1024, 128]⟩
abbrev S8x1024x1024 : Shape := ⟨3, ![8, 1024, 1024]⟩
abbrev S128x128 : Shape := ⟨2, ![128, 128]⟩
abbrev S128 : Shape := ⟨1, ![128]⟩
abbrev S_ : Shape := ⟨0, ![]⟩

class Facts : Prop where
  bcast_S_S4x1 : S_.BroadcastsInDim S4x1 (![] : Fin 0 → Fin S4x1.rank)

variable [Facts]

def fn {F : FTy → Type} [FloatOps F] (main_arg0 : IVec S4x1 32) (main_arg1 : IVec S4x1 32) (main_arg2 : IVec S4x1024 1) (main_arg3 : FVec F S8x1024x128 .f32) (main_arg4 : FVec F S8x1024x1024 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) : IVec S4x1 1 :=
  let main_c : IVec S_ 32 := constantI S_ 32 0#32
  let main_v0 : IVec S4x1 32 := broadcastInDim S4x1 ![] bcast_S_S4x1 main_c
  let main_v1 : IVec S4x1 1 := cmpi .sge main_arg0 main_v0
  let main_c_0 : IVec S_ 32 := constantI S_ 32 8#32
  let main_v2 : IVec S4x1 32 := broadcastInDim S4x1 ![] bcast_S_S4x1 main_c_0
  let main_v3 : IVec S4x1 1 := cmpi .slt main_arg0 main_v2
  let main_v4 : IVec S4x1 1 := andi main_v1 main_v3
  main_v4
-- ==== Kernel.lean ====
abbrev S4x1 : Shape := ⟨2, ![4, 1]⟩
abbrev S4x1024 : Shape := ⟨2, ![4, 1024]⟩
abbrev S8x1024x128 : Shape := ⟨3, ![8, 1024, 128]⟩
abbrev S8x1024x1024 : Shape := ⟨3, ![8, 1024, 1024]⟩
abbrev S128x128 : Shape := ⟨2, ![128, 128]⟩
abbrev S128 : Shape := ⟨1, ![128]⟩
abbrev S4x1x1024 : Shape := ⟨3, ![4, 1, 1024]⟩
abbrev S1x128 : Shape := ⟨2, ![1, 128]⟩
abbrev S4x128 : Shape := ⟨2, ![4, 128]⟩
abbrev S1x1024x128 : Shape := ⟨3, ![1, 1024, 128]⟩
abbrev S1x1 : Shape := ⟨2, ![1, 1]⟩
abbrev S1x512x1024 : Shape := ⟨3, ![1, 512, 1024]⟩
abbrev S1x1x1024 : Shape := ⟨3, ![1, 1, 1024]⟩
abbrev S1024x128 : Shape := ⟨2, ![1024, 128]⟩
abbrev S1x1024 : Shape := ⟨2, ![1, 1024]⟩
abbrev S512x1024 : Shape := ⟨2, ![512, 1024]⟩
abbrev S512x128 : Shape := ⟨2, ![512, 128]⟩
abbrev S1 : Shape := ⟨1, ![1]⟩
abbrev S1x1x1 : Shape := ⟨3, ![1, 1, 1]⟩

abbrev nBuf : Space → Nat
  | .hbm => 16
  | .vmem => 15
  | .smem => 1
  | _ => 0

abbrev bufTy : (tb : Table) → Fin (tcTables nBuf tb) → BufTy
  | .hbm, ⟨0, _⟩ => ⟨S4x1, .i32⟩
  | .hbm, ⟨1, _⟩ => ⟨S4x1024, .i1⟩
  | .hbm, ⟨2, _⟩ => ⟨S8x1024x128, .f32⟩
  | .hbm, ⟨3, _⟩ => ⟨S8x1024x1024, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S4x1x1024, .i1⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S4x1x1024, .i32⟩
  | .hbm, ⟨15, _⟩ => ⟨S4x128, .f32⟩
  | .local _ .vmem, ⟨0, _⟩ => ⟨S1x1024x128, .f32⟩
  | .local _ .vmem, ⟨1, _⟩ => ⟨S1x1024x128, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x1x1024, .i32⟩
  | .local _ .vmem, ⟨7, _⟩ => ⟨S1x1x1024, .i32⟩
  | .local _ .vmem, ⟨8, _⟩ => ⟨S128x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S4x128, .f32⟩
  | .local _ .smem, ⟨0, _⟩ => ⟨S4x1, .i32⟩
  | _, _ => ⟨S4x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0 : Index := 0#32
  ![v0.toNat, 0]
def k0_off2 (i : grid0.Coords) : Fin 2 → Nat :=
  let arg0 : BitVec 32 := BitVec.ofNat 32 (i 0).val
  let v53 : Index := Scalar.indexCast arg0
  let c0_40 : Index := 0#32
  ![v53.toNat, 0]
def cc0_transform_0 (k0_off1_inb : ∀ i : grid0.Coords, ∀ a, (k0_off1 i) a + S1x1.size a ≤ S4x1.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S4x1) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1x1.size a ≤ S4x1.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S4x1) ![v0.toNat, 0] S1x1.size (k0_off1_inb i)) numel1_S1x1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1x1.size a ≤ S4x1.size a) (numel1_S1x1 : S1x1.numel = 1) (pf : pre0.Contents (Elt F)) (i : grid0.Coords) : Fin 3 → Nat :=
  let arg0 : BitVec 32 := BitVec.ofNat 32 (i 0).val
  let v0 : Index := Scalar.indexCast arg0
  let c0 : Index := 0#32
  let v1 : BitVec 32 := pf.at 0 (Rect.unit (s := S4x1) ![v0.toNat, 0] S1x1.size (k0_off1_inb i)) numel1_S1x1
  let c1_i32 : BitVec 32 := 1#32
  let c0_i32 : BitVec 32 := 0#32
  let c0_i32_0 : BitVec 32 := 0#32
  ![v1.toNat, c1_i32.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4x1 : Shape := ⟨2, ![4, 1]⟩
abbrev S4x1024 : Shape := ⟨2, ![4, 1024]⟩
abbrev S8x1024x128 : Shape := ⟨3, ![8, 1024, 128]⟩
abbrev S8x1024x1024 : Shape := ⟨3, ![8, 1024, 1024]⟩
abbrev S128x128 : Shape := ⟨2, ![128, 128]⟩
abbrev S128 : Shape := ⟨1, ![128]⟩
abbrev S4 : Shape := ⟨1, ![4]⟩
abbrev S_ : Shape := ⟨0, ![]⟩
abbrev S1 : Shape := ⟨1, ![1]⟩
abbrev S1x1 : Shape := ⟨2, ![1, 1]⟩
abbrev S4x1024x128 : Shape := ⟨3, ![4, 1024, 128]⟩
abbrev S4x1024x1024 : Shape := ⟨3, ![4, 1024, 1024]⟩
abbrev S1x1x128 : Shape := ⟨3, ![1, 1, 128]⟩
abbrev S4x1024x1 : Shape := ⟨3, ![4, 1024, 1]⟩
abbrev S4x128 : Shape := ⟨2, ![4, 128]⟩

abbrev nBuf : Space → Nat
  | .hbm => 91
  | .vmem => 0
  | .smem => 0
  | _ => 0

abbrev bufTy : (tb : Table) → Fin (tcTables nBuf tb) → BufTy
  | .hbm, ⟨0, _⟩ => ⟨S4x1, .i32⟩
  | .hbm, ⟨1, _⟩ => ⟨S4x1, .i32⟩
  | .hbm, ⟨2, _⟩ => ⟨S4x1024, .i1⟩
  | .hbm, ⟨3, _⟩ => ⟨S8x1024x128, .f32⟩
  | .hbm, ⟨4, _⟩ => ⟨S8x1024x1024, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S4, .i32⟩
  | .hbm, ⟨12, _⟩ => ⟨S_, .i32⟩
  | .hbm, ⟨13, _⟩ => ⟨S4, .i32⟩
  | .hbm, ⟨14, _⟩ => ⟨S4, .i1⟩
  | .hbm, ⟨15, _⟩ => ⟨S_, .i32⟩
  | .hbm, ⟨16, _⟩ => ⟨S4, .i32⟩
  | .hbm, ⟨17, _⟩ => ⟨S4, .i32⟩
  | .hbm, ⟨18, _⟩ => ⟨S4, .i32⟩
  | .hbm, ⟨19, _⟩ => ⟨S4x1, .i32⟩
  | .hbm, ⟨20, _⟩ => ⟨S1, .i32⟩
  | .hbm, ⟨21, _⟩ => ⟨S_, .i32⟩
  | .hbm, ⟨22, _⟩ => ⟨S4x1, .i32⟩
  | .hbm, ⟨23, _⟩ => ⟨S4x1, .i1⟩
  | .hbm, ⟨24, _⟩ => ⟨S1x1, .i32⟩
  | .hbm, ⟨25, _⟩ => ⟨S4x1, .i32⟩
  | .hbm, ⟨26, _⟩ => ⟨S4x1, .i1⟩
  | .hbm, ⟨27, _⟩ => ⟨S4x1, .i1⟩
  | .hbm, ⟨28, _⟩ => ⟨S_, .i1⟩
  | .hbm, ⟨29, _⟩ => ⟨S4, .i1⟩
  | .hbm, ⟨30, _⟩ => ⟨S4x1024x128, .f32⟩
  | .hbm, ⟨31, _⟩ => ⟨S4x1024x128, .i1⟩
  | .hbm, ⟨32, _⟩ => ⟨S_, .f32⟩
  | .hbm, ⟨33, _⟩ => ⟨S4x1024x128, .f32⟩
  | .hbm, ⟨34, _⟩ => ⟨S4x1024x128, .f32⟩
  | .hbm, ⟨35, _⟩ => ⟨S_, .i32⟩
  | .hbm, ⟨36, _⟩ => ⟨S4, .i32⟩
  | .hbm, ⟨37, _⟩ => ⟨S4, .i1⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S4, .i32⟩
  | .hbm, ⟨42, _⟩ => ⟨S4x1, .i32⟩
  | .hbm, ⟨43, _⟩ => ⟨S1, .i32⟩
  | .hbm, ⟨44, _⟩ => ⟨S_, .i32⟩
  | .hbm, ⟨45, _⟩ => ⟨S4x1, .i32⟩
  | .hbm, ⟨46, _⟩ => ⟨S4x1, .i1⟩
  | .hbm, ⟨47, _⟩ => ⟨S1x1, .i32⟩
  | .hbm, ⟨48, _⟩ => ⟨S4x1, .i32⟩
  | .hbm, ⟨49, _⟩ => ⟨S4x1, .i1⟩
  | .hbm, ⟨50, _⟩ => ⟨S4x1, .i1⟩
  | .hbm, ⟨51, _⟩ => ⟨S_, .i1⟩
  | .hbm, ⟨52, _⟩ => ⟨S4, .i1⟩
  | .hbm, ⟨53, _⟩ => ⟨S4x1024x1024, .f32⟩
  | .hbm, ⟨54, _⟩ => ⟨S4x1024x1024, .i1⟩
  | .hbm, ⟨55, _⟩ => ⟨S_, .f32⟩
  | .hbm, ⟨56, _⟩ => ⟨S4x1024x1024, .f32⟩
  | .hbm, ⟨57, _⟩ => ⟨S4x1024x1024, .f32⟩
  | .hbm, ⟨58, _⟩ => ⟨S4x1024x128, .f32⟩
  | .hbm, ⟨59, _⟩ => ⟨S1x1x128, .f32⟩
  | .hbm, ⟨60, _⟩ => ⟨S4x1024x128, .f32⟩
  | .hbm, ⟨61, _⟩ => ⟨S4x1024x128, .f32⟩
  | .hbm, ⟨62, _⟩ => ⟨S_, .f32⟩
  | .hbm, ⟨63, _⟩ => ⟨S4x1024x128, .f32⟩
  | .hbm, ⟨64, _⟩ => ⟨S4x1024x128, .f32⟩
  | .hbm, ⟨65, _⟩ => ⟨S4x1024x128, .f32⟩
  | .hbm, ⟨66, _⟩ => ⟨S4x1024x128, .f32⟩
  | .hbm, ⟨67, _⟩ => ⟨S1x1x128, .f32⟩
  | .hbm, ⟨68, _⟩ => ⟨S4x1024x128, .f32⟩
  | .hbm, ⟨69, _⟩ => ⟨S4x1024x128, .f32⟩
  | .hbm, ⟨70, _⟩ => ⟨S_, .f32⟩
  | .hbm, ⟨71, _⟩ => ⟨S4x1024x128, .f32⟩
  | .hbm, ⟨72, _⟩ => ⟨S4x1024x128, .f32⟩
  | .hbm, ⟨73, _⟩ => ⟨S4x1024x128, .f32⟩
  | .hbm, ⟨74, _⟩ => ⟨S4x1024x128, .f32⟩
  | .hbm, ⟨75, _⟩ => ⟨S1x1x128, .f32⟩
  | .hbm, ⟨76, _⟩ => ⟨S4x1024x128, .f32⟩
  | .hbm, ⟨77, _⟩ => ⟨S4x1024x128, .f32⟩
  | .hbm, ⟨78, _⟩ => ⟨S4x1024x128, .f32⟩
  | .hbm, ⟨79, _⟩ => ⟨S4x1024x128, .f32⟩
  | .hbm, ⟨80, _⟩ => ⟨S4x1024, .f32⟩
  | .hbm, ⟨81, _⟩ => ⟨S4x1024x1, .f32⟩
  | .hbm, ⟨82, _⟩ => ⟨S4x1024x128, .f32⟩
  | .hbm, ⟨83, _⟩ => ⟨S4x1024x128, .f32⟩
  | .hbm, ⟨84, _⟩ => ⟨S_, .f32⟩
  | .hbm, ⟨85, _⟩ => ⟨S4x128, .f32⟩
  | .hbm, ⟨86, _⟩ => ⟨S_, .f32⟩
  | .hbm, ⟨87, _⟩ => ⟨S4, .f32⟩
  | .hbm, ⟨88, _⟩ => ⟨S4x1, .f32⟩
  | .hbm, ⟨89, _⟩ => ⟨S4x128, .f32⟩
  | .hbm, ⟨90, _⟩ => ⟨S4x128, .f32⟩
  | _, _ => ⟨S4x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v1 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_call2_cst : Ref sig .tc := ⟨.hbm, 62, rfl⟩
abbrev main_call2_v0 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_call3_cst : Ref sig .tc := ⟨.hbm, 70, rfl⟩
abbrev main_call3_v0 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_v21 : Ref sig .tc := ⟨.hbm, 80, rfl⟩
abbrev main_v22 : Ref sig .tc := ⟨.hbm, 81, rfl⟩
abbrev main_v23 : Ref sig .tc := ⟨.hbm, 82, rfl⟩
abbrev main_v24 : Ref sig .tc := ⟨.hbm, 83, rfl⟩
abbrev main_cst : Ref sig .tc := ⟨.hbm, 84, rfl⟩
abbrev main_v25 : Ref sig .tc := ⟨.hbm, 85, rfl⟩
abbrev main_cst_0 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_v29 : Ref sig .tc := ⟨.hbm, 90, rfl⟩

abbrev nD : Nat := 1
abbrev τ : Topo := Topo.v7x

variable {F : FTy → Type} [FloatOps F]
-- ==== Proof.Setup.lean ====
/-
  The launch of the ideal kernel: what the program's buffers hold when its pipeline starts, the table of
  graph numbers the index maps read, the block each window stages at a grid point, and the argument arrays
  after a run. The text follows the set-up that is generated for a frame; it says nothing of what the
  kernel computes.
-/
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.ArrRel
public import Idealize.ShloMosaic.Lib.Tactic

@[expose] public section

set_option maxRecDepth 16384

noncomputable section

namespace Cert.KernelIdeal.Pooled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule of the output window and the body at a point -/

/-- The output's one block is written back after the last of the four points, and after no other. -/
theorem flush_out (a : (pcfg0 (F := F)).Adm) : ∀ t : Fin (cfg0 a).N, ((cfg0 a).win 10).flush t = true ↔ t.val % 4 = 3 :=
  (fun t => Pipeline.Window.flushOf_const cc0_transform_10 (fun _ _ => rfl) (n := 4) (by decide) rfl t : ∀ t : Fin grid0.N, Pipeline.Window.flushOf grid0 true cc0_transform_10 t = true ↔ t.val % 4 = 3)

/-- The kernel body at point `t`, on the memrefs the pipeline calls it with. -/
abbrev bodyAt0 (a : (pcfg0 (F := F)).Adm) (t : Fin (cfg0 a).N) : Prog (TpuEff nD τ sig (Elt F) Λ₀ .tc) PUnit :=
  cc0__cdfg_kernel (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10))

/-! ## @main up to the pipeline -/

/-- Core `c`'s buffers when the pipeline is entered: after the four reshapes and the conversion of the mask. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main is those host operations and then the pipeline, which finds the buffers at `V`. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer that no host operation writes is found as launched. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    refine ⟨?_, ?_, ?_, ?_, ?_⟩ <;> apply StableHlo.devRef_ne_of_ne <;> assumption))
theorem V_main_arg0 (c : Dev nD) : V m c main_arg0 = m ((c : Thread nD τ).loc main_arg0) :=
  V_kept m c main_arg0 (by decide) (by decide) (by decide) (by decide) (by decide)
theorem V_main_arg1 (c : Dev nD) : V m c main_arg1 = m ((c : Thread nD τ).loc main_arg1) :=
  V_kept m c main_arg1 (by decide) (by decide) (by decide) (by decide) (by decide)
theorem V_main_arg2 (c : Dev nD) : V m c main_arg2 = m ((c : Thread nD τ).loc main_arg2) :=
  V_kept m c main_arg2 (by decide) (by decide) (by decide) (by decide) (by decide)
theorem V_main_arg3 (c : Dev nD) : V m c main_arg3 = m ((c : Thread nD τ).loc main_arg3) :=
  V_kept m c main_arg3 (by decide) (by decide) (by decide) (by decide) (by decide)
theorem V_main_arg4 (c : Dev nD) : V m c main_arg4 = m ((c : Thread nD τ).loc main_arg4) :=
  V_kept m c main_arg4 (by decide) (by decide) (by decide) (by decide) (by decide)
theorem V_main_arg5 (c : Dev nD) : V m c main_arg5 = m ((c : Thread nD τ).loc main_arg5) :=
  V_kept m c main_arg5 (by decide) (by decide) (by decide) (by decide) (by decide)
theorem V_main_arg6 (c : Dev nD) : V m c main_arg6 = m ((c : Thread nD τ).loc main_arg6) :=
  V_kept m c main_arg6 (by decide) (by decide) (by decide) (by decide) (by decide)
theorem V_main_arg7 (c : Dev nD) : V m c main_arg7 = m ((c : Thread nD τ).loc main_arg7) :=
  V_kept m c main_arg7 (by decide) (by decide) (by decide) (by decide) (by decide)
theorem V_main_arg8 (c : Dev nD) : V m c main_arg8 = m ((c : Thread nD τ).loc main_arg8) :=
  V_kept m c main_arg8 (by decide) (by decide) (by decide) (by decide) (by decide)
theorem V_main_arg9 (c : Dev nD) : V m c main_arg9 = m ((c : Thread nD τ).loc main_arg9) :=
  V_kept m c main_arg9 (by decide) (by decide) (by decide) (by decide) (by decide)
theorem V_main_arg10 (c : Dev nD) : V m c main_arg10 = m ((c : Thread nD τ).loc main_arg10) :=
  V_kept m c main_arg10 (by decide) (by decide) (by decide) (by decide) (by decide)

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The run below is
    stated under it; `Cert.Words.ideal_ok` derives it from the precondition. -/
abbrev Ok : Prop := ok0 (F := F) (tbl m)
/-- The tables' contents as ADMISSIBLE contents, and the pipeline at them: what the launch theorem runs. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S4x1 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact; read-only: the pipeline keeps
    the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, whether it was fetched at that point or kept
    from an earlier one, for any proof data that has the window's array as the pipeline found it and whose body leaves
    the block in place. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5 (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6 (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7 (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8 (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9 (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a run -/

/-- What a run that ends in the pipeline's post says of the argument arrays: each ends as it was launched. -/
theorem args_kept (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w)) {r : PUnit × MemSt nD τ sig (Elt F)}
    (h : Pipeline.RDat.FramePost ((Pipeline.pin pcfgs fun _ => adm m hO) 0) rdat (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      (Pipeline.RDat.FramePost.arr_in h c 0 rfl).trans ((hA c 0).trans (V_main_arg3 m c)),
      (Pipeline.RDat.FramePost.arr_in h c 2 rfl).trans ((hA c 2).trans (V_main_arg4 m c)),
      (Pipeline.RDat.FramePost.arr_in h c 4 rfl).trans ((hA c 4).trans (V_main_arg5 m c)),
      ((h c).2 main_arg6 (by decide : main_arg6 ∈ Pipeline.restRefs sig spec0)).trans (V_main_arg6 m c),
      (Pipeline.RDat.FramePost.arr_in h c 6 rfl).trans ((hA c 6).trans (V_main_arg7 m c)),
      ((h c).2 main_arg8 (by decide : main_arg8 ∈ Pipeline.restRefs sig spec0)).trans (V_main_arg8 m c),
      (Pipeline.RDat.FramePost.arr_in h c 8 rfl).trans ((hA c 8).trans (V_main_arg9 m c)),
      ((h c).2 main_arg10 (by decide : main_arg10 ∈ Pipeline.restRefs sig spec0)).trans (V_main_arg10 m c)⟩

/-- Each window's current staging memref at point `t`, spelled as the pipeline passes it , and its wholeness. -/
abbrev ms0_0 (hO : Ok m) (t : Fin (cfgM m hO).N) : Memref sig .tc .vmem S1x1024x128 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x512x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x512x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x1024 .i32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x128 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S128x128 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x128 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S128x128 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x128 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S4x128 .f32 := spec0_10.stage ((cfgM m hO).slots t 10)
abbrev hs0_10 (hO : Ok m) (t : Fin (cfgM m hO).N) : (ms0_10 m hO t).IsWhole := hstage0_10 (((cfgM m hO).slots t 10).cast nbuf0_10)

end Cert.KernelIdeal.Pooled

end
-- ==== Proof.Body.lean ====
/-
  The kernel's body at one grid point, run once: it leaves its inputs as they were and overwrites one row of the
  output block, the row of the point, with the row it computed; the other rows keep what they held.
-/
module

public import proofs.«01_k».proof.Proof.Setup
public import Idealize.ShloMosaic.Lib.VecWindow
public import Idealize.ShloMosaic.Lib.WritesUnit

@[expose] public section

set_option maxRecDepth 16384

noncomputable section

namespace Cert.KernelIdeal.Pooled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The row the body computes from the ten blocks it is handed: the masked mean, over the nodes, of the last layer. -/
def rowOf (x0 : Vec F S1x1024x128 .f32) (x1 : Vec F S1x512x1024 .f32) (x2 : Vec F S1x512x1024 .f32) (x3 : Vec F S1x1x1024 .i32) (x4 : Vec F S128x128 .f32) (x5 : Vec F S1x128 .f32) (x6 : Vec F S128x128 .f32) (x7 : Vec F S1x128 .f32) (x8 : Vec F S128x128 .f32) (x9 : Vec F S1x128 .f32) : FVec F S1x128 .f32 :=
  k0_pay1 (k0_pay2 x3) (k0_pay3 x0 x4 x5) (k0_pay4 x0 x4 x5 x6 x1 x2 x7) x8 x1 x2 x9

/-- Block `X` is block `Y` with the row of grid point `i` overwritten by `r`. -/
def RowSet (i : grid0.Coords) (r : FVec F S1x128 .f32) (Y X : Vec F S4x128 .f32) : Prop :=
  ∀ j : S4x128.Idx, X j = if (j 0).val = (i 0).val then r (fun a => ⟨![0, (j 1).val] a, by
    have := (j 1).isLt; fin_cases a <;> simp_all⟩) else Y j

/-- A load of all of a whole memref that holds `x` is `x`. -/
theorem load_whole {sp : Space} {s : Shape} {e : EltTy} {a : Memref sig .tc sp s e} (ha : a.IsWhole) (x : s.Idx → Elt F e)
    {off : Fin s.rank → ℕ} (h : ∀ k, off k + s.size k ≤ s.size k) :
    View.readAt (Elt F) a.view (Rect.unit off s.size h).toLoadRect (ha.unread x) = x :=
  (View.readAt_full a.view _ h).trans (ha.read_unread x)

/-- The row offset of the body's store is the grid point. -/
theorem off2_eq (i : grid0.Coords) : k0_off2 i = ![(i 0).val, 0] := by
  have hi := (i 0).isLt
  unfold k0_off2
  funext a
  fin_cases a
  · show (BitVec.ofNat 32 (i 0).val).toNat = (i 0).val
    rw [BitVec.toNat_ofNat]
    exact Nat.mod_eq_of_lt (lt_trans hi (by decide))
  · rfl

/-- The body's one store overwrites the row of the point. -/
theorem rowSet_write (i : grid0.Coords) (v : View sig .tc .vmem S4x128 .f32) (f : v.ty.Contents (Elt F)) (r : FVec F S1x128 .f32)
    (h : ∀ a, k0_off2 i a + (![1, 128] : Fin 2 → ℕ) a ≤ S4x128.size a) :
    RowSet i r (v.read (Elt F) f) (v.read (Elt F) (v.writes (Elt F) f [⟨Rect.unit (k0_off2 i) ![1, 128] h, r⟩])) := by
  intro j
  have hj := (j 1).isLt
  split
  · rename_i hj0
    refine View.read_writes_cons_rows_of_mem v f h r [] j _ (off2_eq i) ?_ rfl
    simpa using hj0
  · rename_i hj0
    refine View.read_writes_cons_rows_of_not_mem v f h r [] j (off2_eq i) (W := 1) rfl ?_
    omega

set_option maxHeartbeats 1000000 in
/-- The body's triple. On whole memrefs holding the ten input blocks and any output block `Y`, the body returns with the
    inputs and the table unchanged and the output block `Y` with its row overwritten by `rowOf`. -/
theorem body_run (c : Dev nD) (i : grid0.Coords) (arg2 : Memref sig .tc .vmem S1x1024x128 .f32) (harg2 : arg2.IsWhole) (arg3 : Memref sig .tc .vmem S1x512x1024 .f32) (harg3 : arg3.IsWhole) (arg4 : Memref sig .tc .vmem S1x512x1024 .f32) (harg4 : arg4.IsWhole) (arg5 : Memref sig .tc .vmem S1x1x1024 .i32) (harg5 : arg5.IsWhole) (arg6 : Memref sig .tc .vmem S128x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S4x128 .f32) (harg12 : arg12.IsWhole)
    (x0 : Vec F S1x1024x128 .f32) (x1 : Vec F S1x512x1024 .f32) (x2 : Vec F S1x512x1024 .f32) (x3 : Vec F S1x1x1024 .i32) (x4 : Vec F S128x128 .f32) (x5 : Vec F S1x128 .f32) (x6 : Vec F S128x128 .f32) (x7 : Vec F S1x128 .f32) (x8 : Vec F S128x128 .f32) (x9 : Vec F S1x128 .f32) (Y : Vec F S4x128 .f32) (xt0 : TbBuf0 (F := F) c tbM0_0) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare Y ∗ tbPt0 c tbM0_0 xt0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ X, ⌜RowSet i (rowOf x0 x1 x2 x3 x4 x5 x6 x7 x8 x9) Y X⌝ ∗ owns (c : Thread nD τ) arg12 fullShare X) ∗ tbPt0 c tbM0_0 xt0) -∗ K ⟨⟩))
      ⊢ wp frame (wpE (defs₀ (F := F)) Variants.none c none) E (cc0__cdfg_kernel i tbM0_0 htbM0_0 arg2 harg2 arg3 harg3 arg4 harg4 arg5 harg5 arg6 harg6 arg7 harg7 arg8 harg8 arg9 harg9 arg10 harg10 arg11 harg11 arg12 harg12) K := by
  simp only [cc0__cdfg_kernel_eq_skeleton]; unfold cc0__cdfg_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; swap
    · iexists _; isplitr; swap; · iexact H10
      ipureintro; rfl
    ipureintro
    have e0 : ∀ h, View.readAt (Elt F) arg2.view (Rect.unit ![0, 0, 0] ![1, 1024, 128] h).toLoadRect (harg2.unread x0) = x0 := fun h => load_whole harg2 x0 h
    have e1 : ∀ h, View.readAt (Elt F) arg3.view (Rect.unit ![0, 0, 0] ![1, 512, 1024] h).toLoadRect (harg3.unread x1) = x1 := fun h => load_whole harg3 x1 h
    have e2 : ∀ h, View.readAt (Elt F) arg4.view (Rect.unit ![0, 0, 0] ![1, 512, 1024] h).toLoadRect (harg4.unread x2) = x2 := fun h => load_whole harg4 x2 h
    have e3 : ∀ h, View.readAt (Elt F) arg5.view (Rect.unit ![0, 0, 0] ![1, 1, 1024] h).toLoadRect (harg5.unread x3) = x3 := fun h => load_whole harg5 x3 h
    have e4 : ∀ h, View.readAt (Elt F) arg6.view (Rect.unit ![0, 0] ![128, 128] h).toLoadRect (harg6.unread x4) = x4 := fun h => load_whole harg6 x4 h
    have e5 : ∀ h, View.readAt (Elt F) arg7.view (Rect.unit ![0, 0] ![1, 128] h).toLoadRect (harg7.unread x5) = x5 := fun h => load_whole harg7 x5 h
    have e6 : ∀ h, View.readAt (Elt F) arg8.view (Rect.unit ![0, 0] ![128, 128] h).toLoadRect (harg8.unread x6) = x6 := fun h => load_whole harg8 x6 h
    have e7 : ∀ h, View.readAt (Elt F) arg9.view (Rect.unit ![0, 0] ![1, 128] h).toLoadRect (harg9.unread x7) = x7 := fun h => load_whole harg9 x7 h
    have e8 : ∀ h, View.readAt (Elt F) arg10.view (Rect.unit ![0, 0] ![128, 128] h).toLoadRect (harg10.unread x8) = x8 := fun h => load_whole harg10 x8 h
    have e9 : ∀ h, View.readAt (Elt F) arg11.view (Rect.unit ![0, 0] ![1, 128] h).toLoadRect (harg11.unread x9) = x9 := fun h => load_whole harg11 x9 h
    unfold body_run.sl.r body_run.sl.r_1 body_run.sl.r_2
    rw [e0, e1, e2, e3, e4, e5, e6, e7, e8, e9]
    have h := rowSet_write i arg12.view (harg12.unread Y) (rowOf x0 x1 x2 x3 x4 x5 x6 x7 x8 x9)
    rw [harg12.read_unread] at h
    exact h _
  iexact HT0

end Cert.KernelIdeal.Pooled

end
-- ==== Proof.Launch.lean ====
/-
  The ideal kernel's run. The output block stays in its staging buffer over the four grid points and is written back
  after the last; each point overwrites one row of it, so what the pipeline may leave there is stated as a relation
  between the block a point finds and the block it leaves. From the run's end follow the argument arrays unchanged and
  the output array: row `b` is the row the body computes at point `b`.
-/
module

public import proofs.«01_k».proof.Proof.Body

@[expose] public section

set_option maxRecDepth 16384

noncomputable section

namespace Cert.KernelIdeal.Pooled

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- What the proof says of the pipeline's windows on core `c`, the output aside: the arrays as the pipeline finds them,
    and each input's staging buffer left at its block. -/
def dats (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, h⟩ => Pipeline.Dat.unnamed (cfg := (cfgM m hO)) ⟨10, h⟩ t
  Φ _ := iprop(Pipeline.ΦA spec0 c ∗ Pipeline.ΦT pre0 (tbl m) c)
  q w := Pipeline.shareOf spec0 w
  owed _ := 0

/-- The row computed at point `t`, of the blocks staged there. -/
def pointRow (hO : Ok m) (c : Dev nD) (t : Fin (cfgM m hO).N) : FVec F S1x128 .f32 :=
  rowOf (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t)

/-- What point `t` does to the output block: its own row is overwritten, the others stay. -/
def outRel (hO : Ok m) (c : Dev nD) (t : Fin (cfgM m hO).N) (Y X : Vec F S4x128 .f32) : Prop :=
  RowSet ((cfgM m hO).grid.coords t) (pointRow m hO c t) Y X

/-- The windows whose relation is stated apart: the output. -/
def outOnly (hO : Ok m) (c : Dev nD) (w : Fin (cfgM m hO).W) :
    Option (Fin (cfgM m hO).N → (Y X : ((cfgM m hO).win w).block.Idx → Elt F ((cfgM m hO).win w).elt) → Prop) :=
  match w with
  | ⟨10, _⟩ => some (outRel m hO c)
  | _ => none

/-- The proof data of the run: the inputs' as above and the output's relation. -/
def rdat (hO : Ok m) (c : Dev nD) : Pipeline.RDat τ (Elt F) Unit ℕ (UR sig nD τ) ℕ (cfgM m hO) c :=
  (dats m hO c).toR.override (outOnly m hO c)

theorem dats_A (hO : Ok m) (c : Dev nD) (w : Fin (cfgM m hO).W) : (dats m hO c).A w = V m c (Pipeline.arrRef spec0 w) := by
  dsimp only [dats]

theorem rdat_A (hO : Ok m) (c : Dev nD) (w : Fin (cfgM m hO).W) : (rdat m hO c).A w = V m c (Pipeline.arrRef spec0 w) :=
  dats_A m hO c w

theorem after_0 (hO : Ok m) (c : Dev nD) (t : Fin (cfgM m hO).N) : (dats m hO c).after 0 t = iblk m hO c 0 t := by
  dsimp only [dats]; try rfl
theorem after_1 (hO : Ok m) (c : Dev nD) (t : Fin (cfgM m hO).N) : (dats m hO c).after 1 t = iblk m hO c 1 t := by
  dsimp only [dats]; try rfl
theorem after_2 (hO : Ok m) (c : Dev nD) (t : Fin (cfgM m hO).N) : (dats m hO c).after 2 t = iblk m hO c 2 t := by
  dsimp only [dats]; try rfl
theorem after_3 (hO : Ok m) (c : Dev nD) (t : Fin (cfgM m hO).N) : (dats m hO c).after 3 t = iblk m hO c 3 t := by
  dsimp only [dats]; try rfl
theorem after_4 (hO : Ok m) (c : Dev nD) (t : Fin (cfgM m hO).N) : (dats m hO c).after 4 t = iblk m hO c 4 t := by
  dsimp only [dats]; try rfl
theorem after_5 (hO : Ok m) (c : Dev nD) (t : Fin (cfgM m hO).N) : (dats m hO c).after 5 t = iblk m hO c 5 t := by
  dsimp only [dats]; try rfl
theorem after_6 (hO : Ok m) (c : Dev nD) (t : Fin (cfgM m hO).N) : (dats m hO c).after 6 t = iblk m hO c 6 t := by
  dsimp only [dats]; try rfl
theorem after_7 (hO : Ok m) (c : Dev nD) (t : Fin (cfgM m hO).N) : (dats m hO c).after 7 t = iblk m hO c 7 t := by
  dsimp only [dats]; try rfl
theorem after_8 (hO : Ok m) (c : Dev nD) (t : Fin (cfgM m hO).N) : (dats m hO c).after 8 t = iblk m hO c 8 t := by
  dsimp only [dats]; try rfl
theorem after_9 (hO : Ok m) (c : Dev nD) (t : Fin (cfgM m hO).N) : (dats m hO c).after 9 t = iblk m hO c 9 t := by
  dsimp only [dats]; try rfl

/-- What the body may find of an input is its block, and leaving the block is what the data ask of it. -/
theorem finds_0 (hO : Ok m) (c : Dev nD) (t : Fin (cfgM m hO).N) {Y} (h : (rdat m hO c).Finds 0 t Y) : Y = iblk m hO c 0 t := by
  obtain ⟨d, hd⟩ := (dats m hO c).toR_finds 0 t Y (((dats m hO c).toR.override_finds (ovr := outOnly m hO c) rfl t Y).mp h)
  exact hd.trans (before_0 m hO (dats m hO c) (dats_A m hO c 0) (after_0 m hO c) t d)
theorem leaves_0 (hO : Ok m) (c : Dev nD) (t : Fin (cfgM m hO).N) (Y) : (rdat m hO c).after 0 t Y (iblk m hO c 0 t) := by
  have h : (rdat m hO c).after 0 = (dats m hO c).toR.after 0 := (dats m hO c).toR.override_after_of_eq_none (ovr := outOnly m hO c) rfl
  rw [h]
  show (dats m hO c).Leaves 0 t _
  exact (Pipeline.Dat.Leaves.live_iff (dats m hO c) (w := 0) (t := t) (Or.inl rfl)).mpr (after_0 m hO c t).symm
theorem finds_1 (hO : Ok m) (c : Dev nD) (t : Fin (cfgM m hO).N) {Y} (h : (rdat m hO c).Finds 1 t Y) : Y = iblk m hO c 1 t := by
  obtain ⟨d, hd⟩ := (dats m hO c).toR_finds 1 t Y (((dats m hO c).toR.override_finds (ovr := outOnly m hO c) rfl t Y).mp h)
  exact hd.trans (before_1 m hO (dats m hO c) (dats_A m hO c 1) (after_1 m hO c) t d)
theorem leaves_1 (hO : Ok m) (c : Dev nD) (t : Fin (cfgM m hO).N) (Y) : (rdat m hO c).after 1 t Y (iblk m hO c 1 t) := by
  have h : (rdat m hO c).after 1 = (dats m hO c).toR.after 1 := (dats m hO c).toR.override_after_of_eq_none (ovr := outOnly m hO c) rfl
  rw [h]
  show (dats m hO c).Leaves 1 t _
  exact (Pipeline.Dat.Leaves.live_iff (dats m hO c) (w := 1) (t := t) (Or.inl rfl)).mpr (after_1 m hO c t).symm
theorem finds_2 (hO : Ok m) (c : Dev nD) (t : Fin (cfgM m hO).N) {Y} (h : (rdat m hO c).Finds 2 t Y) : Y = iblk m hO c 2 t := by
  obtain ⟨d, hd⟩ := (dats m hO c).toR_finds 2 t Y (((dats m hO c).toR.override_finds (ovr := outOnly m hO c) rfl t Y).mp h)
  exact hd.trans (before_2 m hO (dats m hO c) (dats_A m hO c 2) (after_2 m hO c) t d)
theorem leaves_2 (hO : Ok m) (c : Dev nD) (t : Fin (cfgM m hO).N) (Y) : (rdat m hO c).after 2 t Y (iblk m hO c 2 t) := by
  have h : (rdat m hO c).after 2 = (dats m hO c).toR.after 2 := (dats m hO c).toR.override_after_of_eq_none (ovr := outOnly m hO c) rfl
  rw [h]
  show (dats m hO c).Leaves 2 t _
  exact (Pipeline.Dat.Leaves.live_iff (dats m hO c) (w := 2) (t := t) (Or.inl rfl)).mpr (after_2 m hO c t).symm
theorem finds_3 (hO : Ok m) (c : Dev nD) (t : Fin (cfgM m hO).N) {Y} (h : (rdat m hO c).Finds 3 t Y) : Y = iblk m hO c 3 t := by
  obtain ⟨d, hd⟩ := (dats m hO c).toR_finds 3 t Y (((dats m hO c).toR.override_finds (ovr := outOnly m hO c) rfl t Y).mp h)
  exact hd.trans (before_3 m hO (dats m hO c) (dats_A m hO c 3) (after_3 m hO c) t d)
theorem leaves_3 (hO : Ok m) (c : Dev nD) (t : Fin (cfgM m hO).N) (Y) : (rdat m hO c).after 3 t Y (iblk m hO c 3 t) := by
  have h : (rdat m hO c).after 3 = (dats m hO c).toR.after 3 := (dats m hO c).toR.override_after_of_eq_none (ovr := outOnly m hO c) rfl
  rw [h]
  show (dats m hO c).Leaves 3 t _
  exact (Pipeline.Dat.Leaves.live_iff (dats m hO c) (w := 3) (t := t) (Or.inl rfl)).mpr (after_3 m hO c t).symm
theorem finds_4 (hO : Ok m) (c : Dev nD) (t : Fin (cfgM m hO).N) {Y} (h : (rdat m hO c).Finds 4 t Y) : Y = iblk m hO c 4 t := by
  obtain ⟨d, hd⟩ := (dats m hO c).toR_finds 4 t Y (((dats m hO c).toR.override_finds (ovr := outOnly m hO c) rfl t Y).mp h)
  exact hd.trans (before_4 m hO (dats m hO c) (dats_A m hO c 4) (after_4 m hO c) t d)
theorem leaves_4 (hO : Ok m) (c : Dev nD) (t : Fin (cfgM m hO).N) (Y) : (rdat m hO c).after 4 t Y (iblk m hO c 4 t) := by
  have h : (rdat m hO c).after 4 = (dats m hO c).toR.after 4 := (dats m hO c).toR.override_after_of_eq_none (ovr := outOnly m hO c) rfl
  rw [h]
  show (dats m hO c).Leaves 4 t _
  exact (Pipeline.Dat.Leaves.live_iff (dats m hO c) (w := 4) (t := t) (Or.inl rfl)).mpr (after_4 m hO c t).symm
theorem finds_5 (hO : Ok m) (c : Dev nD) (t : Fin (cfgM m hO).N) {Y} (h : (rdat m hO c).Finds 5 t Y) : Y = iblk m hO c 5 t := by
  obtain ⟨d, hd⟩ := (dats m hO c).toR_finds 5 t Y (((dats m hO c).toR.override_finds (ovr := outOnly m hO c) rfl t Y).mp h)
  exact hd.trans (before_5 m hO (dats m hO c) (dats_A m hO c 5) (after_5 m hO c) t d)
theorem leaves_5 (hO : Ok m) (c : Dev nD) (t : Fin (cfgM m hO).N) (Y) : (rdat m hO c).after 5 t Y (iblk m hO c 5 t) := by
  have h : (rdat m hO c).after 5 = (dats m hO c).toR.after 5 := (dats m hO c).toR.override_after_of_eq_none (ovr := outOnly m hO c) rfl
  rw [h]
  show (dats m hO c).Leaves 5 t _
  exact (Pipeline.Dat.Leaves.live_iff (dats m hO c) (w := 5) (t := t) (Or.inl rfl)).mpr (after_5 m hO c t).symm
theorem finds_6 (hO : Ok m) (c : Dev nD) (t : Fin (cfgM m hO).N) {Y} (h : (rdat m hO c).Finds 6 t Y) : Y = iblk m hO c 6 t := by
  obtain ⟨d, hd⟩ := (dats m hO c).toR_finds 6 t Y (((dats m hO c).toR.override_finds (ovr := outOnly m hO c) rfl t Y).mp h)
  exact hd.trans (before_6 m hO (dats m hO c) (dats_A m hO c 6) (after_6 m hO c) t d)
theorem leaves_6 (hO : Ok m) (c : Dev nD) (t : Fin (cfgM m hO).N) (Y) : (rdat m hO c).after 6 t Y (iblk m hO c 6 t) := by
  have h : (rdat m hO c).after 6 = (dats m hO c).toR.after 6 := (dats m hO c).toR.override_after_of_eq_none (ovr := outOnly m hO c) rfl
  rw [h]
  show (dats m hO c).Leaves 6 t _
  exact (Pipeline.Dat.Leaves.live_iff (dats m hO c) (w := 6) (t := t) (Or.inl rfl)).mpr (after_6 m hO c t).symm
theorem finds_7 (hO : Ok m) (c : Dev nD) (t : Fin (cfgM m hO).N) {Y} (h : (rdat m hO c).Finds 7 t Y) : Y = iblk m hO c 7 t := by
  obtain ⟨d, hd⟩ := (dats m hO c).toR_finds 7 t Y (((dats m hO c).toR.override_finds (ovr := outOnly m hO c) rfl t Y).mp h)
  exact hd.trans (before_7 m hO (dats m hO c) (dats_A m hO c 7) (after_7 m hO c) t d)
theorem leaves_7 (hO : Ok m) (c : Dev nD) (t : Fin (cfgM m hO).N) (Y) : (rdat m hO c).after 7 t Y (iblk m hO c 7 t) := by
  have h : (rdat m hO c).after 7 = (dats m hO c).toR.after 7 := (dats m hO c).toR.override_after_of_eq_none (ovr := outOnly m hO c) rfl
  rw [h]
  show (dats m hO c).Leaves 7 t _
  exact (Pipeline.Dat.Leaves.live_iff (dats m hO c) (w := 7) (t := t) (Or.inl rfl)).mpr (after_7 m hO c t).symm
theorem finds_8 (hO : Ok m) (c : Dev nD) (t : Fin (cfgM m hO).N) {Y} (h : (rdat m hO c).Finds 8 t Y) : Y = iblk m hO c 8 t := by
  obtain ⟨d, hd⟩ := (dats m hO c).toR_finds 8 t Y (((dats m hO c).toR.override_finds (ovr := outOnly m hO c) rfl t Y).mp h)
  exact hd.trans (before_8 m hO (dats m hO c) (dats_A m hO c 8) (after_8 m hO c) t d)
theorem leaves_8 (hO : Ok m) (c : Dev nD) (t : Fin (cfgM m hO).N) (Y) : (rdat m hO c).after 8 t Y (iblk m hO c 8 t) := by
  have h : (rdat m hO c).after 8 = (dats m hO c).toR.after 8 := (dats m hO c).toR.override_after_of_eq_none (ovr := outOnly m hO c) rfl
  rw [h]
  show (dats m hO c).Leaves 8 t _
  exact (Pipeline.Dat.Leaves.live_iff (dats m hO c) (w := 8) (t := t) (Or.inl rfl)).mpr (after_8 m hO c t).symm
theorem finds_9 (hO : Ok m) (c : Dev nD) (t : Fin (cfgM m hO).N) {Y} (h : (rdat m hO c).Finds 9 t Y) : Y = iblk m hO c 9 t := by
  obtain ⟨d, hd⟩ := (dats m hO c).toR_finds 9 t Y (((dats m hO c).toR.override_finds (ovr := outOnly m hO c) rfl t Y).mp h)
  exact hd.trans (before_9 m hO (dats m hO c) (dats_A m hO c 9) (after_9 m hO c) t d)
theorem leaves_9 (hO : Ok m) (c : Dev nD) (t : Fin (cfgM m hO).N) (Y) : (rdat m hO c).after 9 t Y (iblk m hO c 9 t) := by
  have h : (rdat m hO c).after 9 = (dats m hO c).toR.after 9 := (dats m hO c).toR.override_after_of_eq_none (ovr := outOnly m hO c) rfl
  rw [h]
  show (dats m hO c).Leaves 9 t _
  exact (Pipeline.Dat.Leaves.live_iff (dats m hO c) (w := 9) (t := t) (Or.inl rfl)).mpr (after_9 m hO c t).symm

/-- At the output the data ask the relation. -/
theorem after_out (hO : Ok m) (c : Dev nD) : (rdat m hO c).after 10 = outRel m hO c :=
  (dats m hO c).toR.override_after_of_eq_some (ovr := outOnly m hO c) rfl

/-! ## The body obligation -/

set_option maxHeartbeats 800000 in
/-- The body at any point, the inputs at their blocks and the output at any contents `Y`. -/
theorem sound_body (hO : Ok m) (c : Dev nD) (t : Fin (cfgM m hO).N) (Y : Vec F S4x128 .f32) :
    iprop((rdat m hO c).Φ t.castSucc ∗ (rdat m hO c).owesAt () t.castSucc
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ owns (c : Thread nD τ) (ms0_6 m hO t) fullShare (iblk m hO c 6 t)
      ∗ owns (c : Thread nD τ) (ms0_7 m hO t) fullShare (iblk m hO c 7 t)
      ∗ owns (c : Thread nD τ) (ms0_8 m hO t) fullShare (iblk m hO c 8 t)
      ∗ owns (c : Thread nD τ) (ms0_9 m hO t) fullShare (iblk m hO c 9 t)
      ∗ owns (c : Thread nD τ) (ms0_10 m hO t) fullShare Y)
    ⊢ wp frame (wpE (defs₀ (F := F)) Variants.none c none) Set.univ (bodyAt0 (adm m hO) t) (fun _ =>
      iprop((rdat m hO c).Φ t.succ ∗ (rdat m hO c).owesAt () t.succ
      ∗ owns (c : Thread nD τ) (ms0_0 m hO t) fullShare (iblk m hO c 0 t)
      ∗ owns (c : Thread nD τ) (ms0_1 m hO t) fullShare (iblk m hO c 1 t)
      ∗ owns (c : Thread nD τ) (ms0_2 m hO t) fullShare (iblk m hO c 2 t)
      ∗ owns (c : Thread nD τ) (ms0_3 m hO t) fullShare (iblk m hO c 3 t)
      ∗ owns (c : Thread nD τ) (ms0_4 m hO t) fullShare (iblk m hO c 4 t)
      ∗ owns (c : Thread nD τ) (ms0_5 m hO t) fullShare (iblk m hO c 5 t)
      ∗ owns (c : Thread nD τ) (ms0_6 m hO t) fullShare (iblk m hO c 6 t)
      ∗ owns (c : Thread nD τ) (ms0_7 m hO t) fullShare (iblk m hO c 7 t)
      ∗ owns (c : Thread nD τ) (ms0_8 m hO t) fullShare (iblk m hO c 8 t)
      ∗ owns (c : Thread nD τ) (ms0_9 m hO t) fullShare (iblk m hO c 9 t)
      ∗ (∃ X, ⌜outRel m hO c t Y X⌝ ∗ owns (c : Thread nD τ) (ms0_10 m hO t) fullShare X))) := by
  unfold bodyAt0
  rw [show (rdat m hO c).Φ t.succ = (rdat m hO c).Φ t.castSucc from rfl,
    show (rdat m hO c).owesAt () t.succ = (rdat m hO c).owesAt () t.castSucc from rfl]
  rw [show (rdat m hO c).Φ t.castSucc = iprop(Pipeline.ΦA spec0 c ∗ Pipeline.ΦT pre0 (tbl m) c) from rfl, PhiT0_eq]
  iintro ⟨⟨HΦ, HT0⟩, Ho, H0, H1, H2, H3, H4, H5, H6, H7, H8, H9, H10⟩
  iapply (body_run c (grid0.coords t) _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) Y (tbl m 0) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HT0]; · iexact HT0
  iintro ⟨H0, H1, H2, H3, H4, H5, H6, H7, H8, H9, H10, HT0⟩
  isplitl [HΦ HT0]
  · isplitl [HΦ]
    · iexact HΦ
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t` is the body at that point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem left_out (hO : Ok m) (c : Dev nD) (t : Fin (cfgM m hO).N) (Y : Vec F S4x128 .f32) :
    (iprop(∃ X, ⌜outRel m hO c t Y X⌝ ∗ owns (c : Thread nD τ) (ms0_10 m hO t) fullShare X) : sProp 𝕄)
    ⊢ iprop(∃ X, ⌜(rdat m hO c).after 10 t Y X⌝ ∗ owns (c : Thread nD τ) (((cfgM m hO).win 10).stage ((cfgM m hO).slots t 10)) fullShare X) := by
  rw [after_out]
  exact .rfl

/-- An input's buffer as the body is handed it holds its block. -/
theorem found_0 (hO : Ok m) (c : Dev nD) (t : Fin (cfgM m hO).N) {Y} (h : (rdat m hO c).Finds 0 t Y) :
    (owns (c : Thread nD τ) (((cfgM m hO).win 0).stage ((cfgM m hO).slots t 0)) fullShare Y : sProp 𝕄)
    ⊢ owns (c : Thread nD τ) (ms0_0 m hO t) fullShare (iblk m hO c 0 t) := by
  rw [finds_0 m hO c t h]
  exact .rfl
theorem found_1 (hO : Ok m) (c : Dev nD) (t : Fin (cfgM m hO).N) {Y} (h : (rdat m hO c).Finds 1 t Y) :
    (owns (c : Thread nD τ) (((cfgM m hO).win 1).stage ((cfgM m hO).slots t 1)) fullShare Y : sProp 𝕄)
    ⊢ owns (c : Thread nD τ) (ms0_1 m hO t) fullShare (iblk m hO c 1 t) := by
  rw [finds_1 m hO c t h]
  exact .rfl
theorem found_2 (hO : Ok m) (c : Dev nD) (t : Fin (cfgM m hO).N) {Y} (h : (rdat m hO c).Finds 2 t Y) :
    (owns (c : Thread nD τ) (((cfgM m hO).win 2).stage ((cfgM m hO).slots t 2)) fullShare Y : sProp 𝕄)
    ⊢ owns (c : Thread nD τ) (ms0_2 m hO t) fullShare (iblk m hO c 2 t) := by
  rw [finds_2 m hO c t h]
  exact .rfl
theorem found_3 (hO : Ok m) (c : Dev nD) (t : Fin (cfgM m hO).N) {Y} (h : (rdat m hO c).Finds 3 t Y) :
    (owns (c : Thread nD τ) (((cfgM m hO).win 3).stage ((cfgM m hO).slots t 3)) fullShare Y : sProp 𝕄)
    ⊢ owns (c : Thread nD τ) (ms0_3 m hO t) fullShare (iblk m hO c 3 t) := by
  rw [finds_3 m hO c t h]
  exact .rfl
theorem found_4 (hO : Ok m) (c : Dev nD) (t : Fin (cfgM m hO).N) {Y} (h : (rdat m hO c).Finds 4 t Y) :
    (owns (c : Thread nD τ) (((cfgM m hO).win 4).stage ((cfgM m hO).slots t 4)) fullShare Y : sProp 𝕄)
    ⊢ owns (c : Thread nD τ) (ms0_4 m hO t) fullShare (iblk m hO c 4 t) := by
  rw [finds_4 m hO c t h]
  exact .rfl
theorem found_5 (hO : Ok m) (c : Dev nD) (t : Fin (cfgM m hO).N) {Y} (h : (rdat m hO c).Finds 5 t Y) :
    (owns (c : Thread nD τ) (((cfgM m hO).win 5).stage ((cfgM m hO).slots t 5)) fullShare Y : sProp 𝕄)
    ⊢ owns (c : Thread nD τ) (ms0_5 m hO t) fullShare (iblk m hO c 5 t) := by
  rw [finds_5 m hO c t h]
  exact .rfl
theorem found_6 (hO : Ok m) (c : Dev nD) (t : Fin (cfgM m hO).N) {Y} (h : (rdat m hO c).Finds 6 t Y) :
    (owns (c : Thread nD τ) (((cfgM m hO).win 6).stage ((cfgM m hO).slots t 6)) fullShare Y : sProp 𝕄)
    ⊢ owns (c : Thread nD τ) (ms0_6 m hO t) fullShare (iblk m hO c 6 t) := by
  rw [finds_6 m hO c t h]
  exact .rfl
theorem found_7 (hO : Ok m) (c : Dev nD) (t : Fin (cfgM m hO).N) {Y} (h : (rdat m hO c).Finds 7 t Y) :
    (owns (c : Thread nD τ) (((cfgM m hO).win 7).stage ((cfgM m hO).slots t 7)) fullShare Y : sProp 𝕄)
    ⊢ owns (c : Thread nD τ) (ms0_7 m hO t) fullShare (iblk m hO c 7 t) := by
  rw [finds_7 m hO c t h]
  exact .rfl
theorem found_8 (hO : Ok m) (c : Dev nD) (t : Fin (cfgM m hO).N) {Y} (h : (rdat m hO c).Finds 8 t Y) :
    (owns (c : Thread nD τ) (((cfgM m hO).win 8).stage ((cfgM m hO).slots t 8)) fullShare Y : sProp 𝕄)
    ⊢ owns (c : Thread nD τ) (ms0_8 m hO t) fullShare (iblk m hO c 8 t) := by
  rw [finds_8 m hO c t h]
  exact .rfl
theorem found_9 (hO : Ok m) (c : Dev nD) (t : Fin (cfgM m hO).N) {Y} (h : (rdat m hO c).Finds 9 t Y) :
    (owns (c : Thread nD τ) (((cfgM m hO).win 9).stage ((cfgM m hO).slots t 9)) fullShare Y : sProp 𝕄)
    ⊢ owns (c : Thread nD τ) (ms0_9 m hO t) fullShare (iblk m hO c 9 t) := by
  rw [finds_9 m hO c t h]
  exact .rfl

/-- An input's buffer handed back at its block is one the data allow. -/
theorem left_0 (hO : Ok m) (c : Dev nD) (t : Fin (cfgM m hO).N) (Y) : (owns (c : Thread nD τ) (ms0_0 m hO t) fullShare (iblk m hO c 0 t) : sProp 𝕄)
    ⊢ iprop(∃ X, ⌜(rdat m hO c).after 0 t Y X⌝ ∗ owns (c : Thread nD τ) (((cfgM m hO).win 0).stage ((cfgM m hO).slots t 0)) fullShare X) := by
  iintro H; iexists (iblk m hO c 0 t); isplitr
  · ipureintro; exact leaves_0 m hO c t Y
  · iexact H
theorem left_1 (hO : Ok m) (c : Dev nD) (t : Fin (cfgM m hO).N) (Y) : (owns (c : Thread nD τ) (ms0_1 m hO t) fullShare (iblk m hO c 1 t) : sProp 𝕄)
    ⊢ iprop(∃ X, ⌜(rdat m hO c).after 1 t Y X⌝ ∗ owns (c : Thread nD τ) (((cfgM m hO).win 1).stage ((cfgM m hO).slots t 1)) fullShare X) := by
  iintro H; iexists (iblk m hO c 1 t); isplitr
  · ipureintro; exact leaves_1 m hO c t Y
  · iexact H
theorem left_2 (hO : Ok m) (c : Dev nD) (t : Fin (cfgM m hO).N) (Y) : (owns (c : Thread nD τ) (ms0_2 m hO t) fullShare (iblk m hO c 2 t) : sProp 𝕄)
    ⊢ iprop(∃ X, ⌜(rdat m hO c).after 2 t Y X⌝ ∗ owns (c : Thread nD τ) (((cfgM m hO).win 2).stage ((cfgM m hO).slots t 2)) fullShare X) := by
  iintro H; iexists (iblk m hO c 2 t); isplitr
  · ipureintro; exact leaves_2 m hO c t Y
  · iexact H
theorem left_3 (hO : Ok m) (c : Dev nD) (t : Fin (cfgM m hO).N) (Y) : (owns (c : Thread nD τ) (ms0_3 m hO t) fullShare (iblk m hO c 3 t) : sProp 𝕄)
    ⊢ iprop(∃ X, ⌜(rdat m hO c).after 3 t Y X⌝ ∗ owns (c : Thread nD τ) (((cfgM m hO).win 3).stage ((cfgM m hO).slots t 3)) fullShare X) := by
  iintro H; iexists (iblk m hO c 3 t); isplitr
  · ipureintro; exact leaves_3 m hO c t Y
  · iexact H
theorem left_4 (hO : Ok m) (c : Dev nD) (t : Fin (cfgM m hO).N) (Y) : (owns (c : Thread nD τ) (ms0_4 m hO t) fullShare (iblk m hO c 4 t) : sProp 𝕄)
    ⊢ iprop(∃ X, ⌜(rdat m hO c).after 4 t Y X⌝ ∗ owns (c : Thread nD τ) (((cfgM m hO).win 4).stage ((cfgM m hO).slots t 4)) fullShare X) := by
  iintro H; iexists (iblk m hO c 4 t); isplitr
  · ipureintro; exact leaves_4 m hO c t Y
  · iexact H
theorem left_5 (hO : Ok m) (c : Dev nD) (t : Fin (cfgM m hO).N) (Y) : (owns (c : Thread nD τ) (ms0_5 m hO t) fullShare (iblk m hO c 5 t) : sProp 𝕄)
    ⊢ iprop(∃ X, ⌜(rdat m hO c).after 5 t Y X⌝ ∗ owns (c : Thread nD τ) (((cfgM m hO).win 5).stage ((cfgM m hO).slots t 5)) fullShare X) := by
  iintro H; iexists (iblk m hO c 5 t); isplitr
  · ipureintro; exact leaves_5 m hO c t Y
  · iexact H
theorem left_6 (hO : Ok m) (c : Dev nD) (t : Fin (cfgM m hO).N) (Y) : (owns (c : Thread nD τ) (ms0_6 m hO t) fullShare (iblk m hO c 6 t) : sProp 𝕄)
    ⊢ iprop(∃ X, ⌜(rdat m hO c).after 6 t Y X⌝ ∗ owns (c : Thread nD τ) (((cfgM m hO).win 6).stage ((cfgM m hO).slots t 6)) fullShare X) := by
  iintro H; iexists (iblk m hO c 6 t); isplitr
  · ipureintro; exact leaves_6 m hO c t Y
  · iexact H
theorem left_7 (hO : Ok m) (c : Dev nD) (t : Fin (cfgM m hO).N) (Y) : (owns (c : Thread nD τ) (ms0_7 m hO t) fullShare (iblk m hO c 7 t) : sProp 𝕄)
    ⊢ iprop(∃ X, ⌜(rdat m hO c).after 7 t Y X⌝ ∗ owns (c : Thread nD τ) (((cfgM m hO).win 7).stage ((cfgM m hO).slots t 7)) fullShare X) := by
  iintro H; iexists (iblk m hO c 7 t); isplitr
  · ipureintro; exact leaves_7 m hO c t Y
  · iexact H
theorem left_8 (hO : Ok m) (c : Dev nD) (t : Fin (cfgM m hO).N) (Y) : (owns (c : Thread nD τ) (ms0_8 m hO t) fullShare (iblk m hO c 8 t) : sProp 𝕄)
    ⊢ iprop(∃ X, ⌜(rdat m hO c).after 8 t Y X⌝ ∗ owns (c : Thread nD τ) (((cfgM m hO).win 8).stage ((cfgM m hO).slots t 8)) fullShare X) := by
  iintro H; iexists (iblk m hO c 8 t); isplitr
  · ipureintro; exact leaves_8 m hO c t Y
  · iexact H
theorem left_9 (hO : Ok m) (c : Dev nD) (t : Fin (cfgM m hO).N) (Y) : (owns (c : Thread nD τ) (ms0_9 m hO t) fullShare (iblk m hO c 9 t) : sProp 𝕄)
    ⊢ iprop(∃ X, ⌜(rdat m hO c).after 9 t Y X⌝ ∗ owns (c : Thread nD τ) (((cfgM m hO).win 9).stage ((cfgM m hO).slots t 9)) fullShare X) := by
  iintro H; iexists (iblk m hO c 9 t); isplitr
  · ipureintro; exact leaves_9 m hO c t Y
  · iexact H

theorem sep_both {P P' Q Q' : sProp 𝕄} (h : P ⊢ Q) (h' : P' ⊢ Q') : iprop(P ∗ P') ⊢ iprop(Q ∗ Q') :=
  BIClass.sep_mono h h'

set_option maxHeartbeats 800000 in
/-- The body obligation of the run, at every point. -/
theorem body_obligation (hO : Ok m) (c : Dev nD) :
    (rdat m hO c).BodyObligation (defs₀ (F := F)) Variants.none () Set.univ := fun t Y hY => by
  rw [bigSep_W0, bigSep_W0, defs₀_row m hO]
  refine triple_restated (sound_body m hO c t (Y 10)) rfl ?_ fun _ => ?_
  · exact sep_both .rfl (sep_both .rfl ((sep_both (found_0 m hO c t (hY 0)) (sep_both (found_1 m hO c t (hY 1)) (sep_both (found_2 m hO c t (hY 2)) (sep_both (found_3 m hO c t (hY 3)) (sep_both (found_4 m hO c t (hY 4)) (sep_both (found_5 m hO c t (hY 5)) (sep_both (found_6 m hO c t (hY 6)) (sep_both (found_7 m hO c t (hY 7)) (sep_both (found_8 m hO c t (hY 8)) (sep_both (found_9 m hO c t (hY 9)) .rfl))))))))))))
  · exact sep_both .rfl (sep_both .rfl ((sep_both (left_0 m hO c t _) (sep_both (left_1 m hO c t _) (sep_both (left_2 m hO c t _) (sep_both (left_3 m hO c t _) (sep_both (left_4 m hO c t _) (sep_both (left_5 m hO c t _) (sep_both (left_6 m hO c t _) (sep_both (left_7 m hO c t _) (sep_both (left_8 m hO c t _) (sep_both (left_9 m hO c t _) (left_out m hO c t _)))))))))))))

/-! ## The run -/

set_option backward.isDefEq.respectTransparency.types false in
/-- Every execution ends with each array at contents the relation allows, every other buffer as the pipeline found it,
    and every semaphore counter at zero. -/
theorem run (hO : Ok m) : θ_run defs (onTc (τ := τ) (main (F := F))) (s₀ m ρ) (fun r =>
    Pipeline.RDat.FramePost ((Pipeline.pin pcfgs fun _ => adm m hO) 0) (fun c => rdat m hO c) (V m) r ∧ r.2.sem = fun _ => 0) :=
  Pipeline.RDat.θ_run_frameP_track_shared (Q' := _) pcfgs (fun _ => adm m hO) (0 : Fin 1) launch₀0 defs₀ Variants.none
    (fun c => rdat m hO c) m ρ main (hbody := fun c => body_obligation m hO c) (hq := fun _ _ _ => rfl)
    (howed := fun _ _ => rfl) (V := V m) (hmain := hmain m Variants.none) (hA := rdat_A m hO) (hpf := V_pre m)
    (hin := fun _ => .rfl) (hout := fun _ => by
      show iprop(Pipeline.ΦA spec0 _ ∗ Pipeline.ΦT pre0 (tbl m) _) ⊢ _
      iintro ⟨H, -⟩; iexact H)

/-! ## The output array -/

/-- The grid is one axis of four points, in order. -/
theorem coords_eq : ∀ t : Fin grid0.N, (grid0.coords t 0).val = t.val := by decide

theorem row_ext (j k : S1x128.Idx) (h : (j 1).val = (k 1).val) : j = k := by
  funext a
  fin_cases a
  · exact Subsingleton.elim (α := Fin 1) _ _
  · exact Fin.ext h

/-- The row of the point is the row computed, -/
theorem set_row {i : grid0.Coords} {r : FVec F S1x128 .f32} {Y X : Vec F S4x128 .f32} (h : RowSet i r Y X) {j : S4x128.Idx}
    (hj : (j 0).val = (i 0).val) : X j = r (fun a => ⟨![0, (j 1).val] a, by
    have := (j 1).isLt; fin_cases a <;> simp_all⟩) := by
  have := h j
  rwa [if_pos hj] at this

/-- and the other rows are kept. -/
theorem kept_row {i : grid0.Coords} {r : FVec F S1x128 .f32} {Y X : Vec F S4x128 .f32} (h : RowSet i r Y X) {j : S4x128.Idx}
    (hj : (j 0).val ≠ (i 0).val) : X j = Y j := by
  have := h j
  rwa [if_neg hj] at this

/-- After point `t` the rows of the points up to `t` are set, each to the row its point computed. -/
theorem rows_set (hO : Ok m) (c : Dev nD) (n : ℕ) : ∀ (t : Fin (cfgM m hO).N), t.val = n → ∀ X : Vec F S4x128 .f32, (rdat m hO c).Leaves 10 t X →
    ∀ (b : Fin (cfgM m hO).N) (j : S4x128.Idx) (k : S1x128.Idx), b.val ≤ n → (j 0).val = b.val → (k 1).val = (j 1).val →
      X j = pointRow m hO c b k := by
  induction n with
  | zero =>
    intro t ht X ⟨Y, _, hX⟩ b j k hb hj hk
    rw [after_out] at hX
    have e : (j 0).val = ((cfgM m hO).grid.coords t 0).val := by
      rw [show ((cfgM m hO).grid.coords t 0).val = t.val from coords_eq t]; omega
    have hbt : b = t := Fin.ext (by omega)
    subst hbt
    exact (set_row hX e).trans (congrArg _ (row_ext _ _ hk.symm))
  | succ n ih =>
    intro t ht X ⟨Y, hY, hX⟩ b j k hb hj hk
    rw [after_out] at hX
    have ec : ((cfgM m hO).grid.coords t 0).val = t.val := coords_eq t
    by_cases hbt : b = t
    · subst hbt
      exact (set_row hX (hj.trans ec.symm)).trans (congrArg _ (row_ext _ _ hk.symm))
    · have hbn : b.val ≤ n := by
        have : b.val ≠ t.val := fun h => hbt (Fin.ext h)
        omega
      rw [kept_row hX (by omega)]
      rcases ((rdat m hO c).finds_of_pos (w := 10) (t := t) rfl (by omega) Y).mp hY with hf | hL
      · have := (flush_out (adm m hO) _).mp hf
        have h4 : t.val < 4 := t.isLt
        simp only at this
        omega
      · exact ih _ (by simp only; omega) Y hL b j k hbn hj hk

/-- The output's block is the whole array and is written back once, after the last point. -/
theorem whole_out (hO : Ok m) (t : Fin (cfgM m hO).N) (ht : t.val = 3) : ((cfgM m hO).win 10).WholeAt t := by
  refine ⟨(flush_out (adm m hO) t).mpr (by omega), fun t' h' => Fin.ext ?_, fun a => ?_⟩
  · have := (flush_out (adm m hO) t').mp h'
    have h4 : t'.val < 4 := t'.isLt
    omega
  · constructor
    · show (cc0_transform_10 (grid0.coords t) a) = 0
      fin_cases a <;> rfl
    · fin_cases a <;> rfl

/-- Row `b` of the output array is the row point `b` computed. -/
theorem out_row (hO : Ok m) {r : PUnit × MemSt nD τ sig (Elt F)}
    (h : Pipeline.RDat.FramePost ((Pipeline.pin pcfgs fun _ => adm m hO) 0) (fun c => rdat m hO c) (V m) r) (c : Dev nD)
    (b : Fin grid0.N) (j : S4x128.Idx) (k : S1x128.Idx) (hj : (j 0).val = b.val) (hk : (k 1).val = (j 1).val) :
    (r.2.mem ((c.tc : Thread nD τ).loc main_v5) : S4x128.Idx → Elt F .f32) j = pointRow m hO c b k := by
  obtain ⟨X, hX, hG⟩ := Pipeline.RDat.ArrAt.emb_eq_of_wholeAt ((h c).1 10) (whole_out m hO ⟨3, (by decide : 3 < grid0.N)⟩ rfl)
  have e := rows_set m hO c 3 ⟨3, (by decide : 3 < grid0.N)⟩ rfl X hX b j k (Nat.le_of_lt_succ b.isLt) hj hk
  exact (hG j).trans e

end Cert.KernelIdeal.Pooled

end
-- ==== Proof.Words.lean ====
/-
  The precondition on the graph numbers, `0 ≤ graph < 8` signed, read as a bound on the words, and from it the
  pipeline's side condition: every block the index maps read a graph number for lies inside its array.
-/
module

public import proofs.«01_k».proof.Defs
public import proofs.«01_k».proof.Proof.Gen.Kernel
public import proofs.«01_k».proof.Proof.Gen.KernelIdeal
public import proofs.«01_k».proof.Proof.Gen.Pre_graph_names_graphs
public import proofs.«01_k».proof.Proof.Setup

@[expose] public section

namespace Cert.Words

open Idealize.ShloMosaic Idealize.ShloMosaic.TcCoe

/-- A word that is signed at least 0 and less than 8 is a number below 8. -/
theorem lt_of_signed (w : BitVec 32) (h : BitVec.ofBool ((0#32).sle w) &&& BitVec.ofBool (w.slt 8#32) = 1#1) : w.toNat < 8 := by
  have h2 : (0#32).sle w = true ∧ w.slt 8#32 = true := by
    revert h
    cases (0#32).sle w <;> cases w.slt 8#32 <;> decide
  obtain ⟨hge, hlt⟩ := h2
  simp only [BitVec.sle, BitVec.slt, decide_eq_true_eq, BitVec.toInt, BitVec.toNat_ofNat] at hge hlt
  omega

/-- The precondition's predicate, true at every word, bounds every graph number. -/
theorem names_lt {F : FTy → Type} [FloatOps F] (a0 a1 : IVec Pre_graph_names_graphs.S4x1 32) (a2 : IVec Pre_graph_names_graphs.S4x1024 1)
    (a3 : FVec F Pre_graph_names_graphs.S8x1024x128 .f32) (a4 : FVec F Pre_graph_names_graphs.S8x1024x1024 .f32)
    (a5 : FVec F Pre_graph_names_graphs.S128x128 .f32) (a6 : FVec F Pre_graph_names_graphs.S128 .f32)
    (a7 : FVec F Pre_graph_names_graphs.S128x128 .f32) (a8 : FVec F Pre_graph_names_graphs.S128 .f32)
    (a9 : FVec F Pre_graph_names_graphs.S128x128 .f32) (a10 : FVec F Pre_graph_names_graphs.S128 .f32)
    (h : Pre_graph_names_graphs.fn a0 a1 a2 a3 a4 a5 a6 a7 a8 a9 a10 = fun _ => 1#1) (y : Pre_graph_names_graphs.S4x1.Idx) :
    (a0 y).toNat < 8 :=
  lt_of_signed (a0 y) (congrFun h y)

/-! ## The table -/

section

open Cert.KernelIdeal

variable {F : FTy → Type} [FloatOps F]

/-- The table the pipeline reads is the argument. -/
theorem tbl_arg (m : (ℓ : Loc nD τ sig) → Buf (Elt F) ℓ) (y : S4x1.Idx) :
    Pooled.tbl m 0 y = m (((0 : Dev nD).tc : Thread nD τ).loc main_arg0) y :=
  congrFun (Pooled.V_main_arg0 m 0) y

/-- If every word of the argument names one of the eight graphs, every block the index maps name lies inside its array. -/
theorem ok_of_lt (m : (ℓ : Loc nD τ sig) → Buf (Elt F) ℓ)
    (h : ∀ y : S4x1.Idx, BitVec.toNat (w := 32) (m (((0 : Dev nD).tc : Thread nD τ).loc main_arg0) y) < 8) : Pooled.Ok m := by
  have hw : ∀ y : S4x1.Idx, BitVec.toNat (w := 32) (Pooled.tbl m 0 y) < 8 := fun y => by
    rw [tbl_arg]; exact h y
  refine ⟨fun i => ⟨fun a => ?_, Or.inl rfl⟩, fun i => ⟨fun a => ?_, Or.inl rfl⟩, fun i => ⟨fun a => ?_, Or.inl rfl⟩⟩
  · fin_cases a
    · show (BitVec.toNat (w := 32) (Pooled.tbl m 0 _) + 1) * 1 ≤ 8
      rw [Nat.mul_one]
      exact Nat.succ_le_of_lt (hw _)
    · exact (by decide : (0 + 1) * 1024 ≤ 1024)
    · exact (by decide : (0 + 1) * 128 ≤ 128)
  · fin_cases a
    · show (BitVec.toNat (w := 32) (Pooled.tbl m 0 _) + 1) * 1 ≤ 8
      rw [Nat.mul_one]
      exact Nat.succ_le_of_lt (hw _)
    · exact (by decide : (0 + 1) * 512 ≤ 1024)
    · exact (by decide : (0 + 1) * 1024 ≤ 1024)
  · fin_cases a
    · show (BitVec.toNat (w := 32) (Pooled.tbl m 0 _) + 1) * 1 ≤ 8
      rw [Nat.mul_one]
      exact Nat.succ_le_of_lt (hw _)
    · exact (by decide : (1 + 1) * 512 ≤ 1024)
    · exact (by decide : (0 + 1) * 1024 ≤ 1024)

end

/-! ## The precondition at the two programs -/

/-- Under the precondition of the kernel every word of its table names one of the eight graphs. -/
theorem kernel_word_lt (m : (ℓ : Loc Kernel.nD Kernel.τ Kernel.sig) → Buf (Elt Bits) ℓ) (h : Cert.Pre_Kernel m) (y : Kernel.S4x1.Idx) :
    BitVec.toNat (w := 32) (m (((0 : Dev Kernel.nD).tc : Thread Kernel.nD Kernel.τ).loc Kernel.main_arg0) y) < 8 :=
  names_lt _ _ _ _ _ _ _ _ _ _ _ (h 0) y

section

open Cert.KernelIdeal

/-- Under the precondition of the ideal kernel every word of its table names one of the eight graphs. -/
theorem ideal_word_lt (m : (ℓ : Loc nD τ sig) → Buf (Elt Ideal) ℓ) (h : Cert.Pre_KernelIdeal m) (y : S4x1.Idx) :
    BitVec.toNat (w := 32) (m (((0 : Dev nD).tc : Thread nD τ).loc main_arg0) y) < 8 :=
  names_lt _ _ _ _ _ _ _ _ _ _ _ (h 0) y

/-- The table of the ideal kernel is the argument. -/
theorem ideal_tbl (m : (ℓ : Loc nD τ sig) → Buf (Elt Ideal) ℓ) (y : S4x1.Idx) :
    Pooled.tbl m 0 y = m (((0 : Dev nD).tc : Thread nD τ).loc main_arg0) y :=
  tbl_arg m y

/-- So its blocks lie inside their arrays. -/
theorem ideal_ok (m : (ℓ : Loc nD τ sig) → Buf (Elt Ideal) ℓ) (h : Cert.Pre_KernelIdeal m) : Pooled.Ok m :=
  ok_of_lt m (ideal_word_lt m h)

end

end Cert.Words
-- ==== Proof.Blocks.lean ====
/-
  The blocks that a grid point finds, read at an index as elements of the program's arguments.
-/
module

public import proofs.«01_k».proof.Proof.Setup
public import proofs.«01_k».proof.Proof.Launch
public import Idealize.ShloMosaic.Lib.Pointwise
public import Idealize.ShloMosaic.Lib.Claim

@[expose] public section

set_option maxRecDepth 16384

noncomputable section

namespace Cert.KernelIdeal.Pooled

open Idealize.ShloMosaic Idealize.SL.Sem Cert.KernelIdeal Cert.KernelIdeal.Gen

variable {F : FTy → Type} [FloatOps F]
variable (m : (ℓ : Loc nD τ sig) → Buf (Elt F) ℓ)

/-- The row of the table that a point reads is the point's. -/
theorem row_at : ∀ t : Fin grid0.N, k0_off1 (grid0.coords t) = ![t.val, 0] := by
  intro t
  funext a
  revert a t
  decide

theorem one_word : S1x1.numel = 1 := by decide

/-- The word that the index maps read at a point: the table's at the point's row. -/
theorem word_at (hO : Ok m) (t : Fin (cfgM m hO).N) (b : Fin 4) (hb : b.val = t.val) (h) (h1) :
    (tbl m).at 0 (Rect.unit (s := S4x1) (k0_off1 (grid0.coords t)) S1x1.size h) h1 = tbl m 0 (ix2 b 0) := by
  refine congrArg (tbl m 0) (funext fun a => ?_)
  match a with
  | ⟨0, _⟩ =>
    refine Fin.ext ?_
    show k0_off1 (grid0.coords t) 0 + 1 * 0 = b.val
    rw [row_at t, hb]
    rfl
  | ⟨1, _⟩ => exact Subsingleton.elim (α := Fin 1) _ _

section Graph

variable (hO : Ok m) (c : Dev nD) (t : Fin (cfgM m hO).N) (b : Fin 4) (hb : b.val = t.val)

section Named

variable (g : Fin 8) (hg : BitVec.toNat (w := 32) (tbl m 0 (ix2 b 0)) = g.val)
include hb hg

/-- The features' block is the named graph's features. -/
theorem iblk0_at (n : Fin 1024) (f : Fin 128) :
    (iblk m hO c 0 t : S1x1024x128.Idx → Elt F .f32) (ix3 0 n f) = m (c.tc.loc main_arg3) (ix3 g n f) := by
  refine (congrArg (V m c main_arg3) (funext fun a => Fin.ext ?_)).trans (congrFun (V_main_arg3 m c) _)
  match a with
  | ⟨0, _⟩ =>
    show BitVec.toNat (w := 32) ((tbl m).at 0 (Rect.unit (s := S4x1) (k0_off1 (grid0.coords t)) S1x1.size (k0_off1_inb _)) one_word) * 1 + 1 * 0 = g.val
    rw [word_at m hO t b hb _ one_word, hg, Nat.mul_one]
    rfl
  | ⟨1, _⟩ =>
    show 0 * 1024 + 1 * n.val = n.val
    omega
  | ⟨2, _⟩ =>
    show 0 * 128 + 1 * f.val = f.val
    omega

/-- The first adjacency block is the upper half of the named graph's matrix, -/
theorem iblk1_at (n : Fin 512) (f : Fin 1024) :
    (iblk m hO c 1 t : S1x512x1024.Idx → Elt F .f32) (ix3 0 n f) = m (c.tc.loc main_arg4) (ix3 g ⟨n, by omega⟩ f) := by
  refine (congrArg (V m c main_arg4) (funext fun a => Fin.ext ?_)).trans (congrFun (V_main_arg4 m c) _)
  match a with
  | ⟨0, _⟩ =>
    show BitVec.toNat (w := 32) ((tbl m).at 0 (Rect.unit (s := S4x1) (k0_off1 (grid0.coords t)) S1x1.size (k0_off1_inb _)) one_word) * 1 + 1 * 0 = g.val
    rw [word_at m hO t b hb _ one_word, hg, Nat.mul_one]
    rfl
  | ⟨1, _⟩ =>
    show 0 * 512 + 1 * n.val = n.val
    omega
  | ⟨2, _⟩ =>
    show 0 * 1024 + 1 * f.val = f.val
    omega

/-- and the second the lower half. -/
theorem iblk2_at (n : Fin 512) (f : Fin 1024) :
    (iblk m hO c 2 t : S1x512x1024.Idx → Elt F .f32) (ix3 0 n f) = m (c.tc.loc main_arg4) (ix3 g ⟨512 + n, by omega⟩ f) := by
  refine (congrArg (V m c main_arg4) (funext fun a => Fin.ext ?_)).trans (congrFun (V_main_arg4 m c) _)
  match a with
  | ⟨0, _⟩ =>
    show BitVec.toNat (w := 32) ((tbl m).at 0 (Rect.unit (s := S4x1) (k0_off1 (grid0.coords t)) S1x1.size (k0_off1_inb _)) one_word) * 1 + 1 * 0 = g.val
    rw [word_at m hO t b hb _ one_word, hg, Nat.mul_one]
    rfl
  | ⟨1, _⟩ =>
    show 1 * 512 + 1 * n.val = 512 + n.val
    omega
  | ⟨2, _⟩ =>
    show 0 * 1024 + 1 * f.val = f.val
    omega

end Named

include hb in
/-- The mask's block is the point's row of the mask, each bit widened to a word. -/
theorem iblk3_at (n : Fin 1024) :
    (iblk m hO c 3 t : S1x1x1024.Idx → Elt F .i32) (ix3 0 0 n) = BitVec.setWidth 32 (m (c.tc.loc main_arg2) (ix2 b n) : BitVec 1) := by
  have hv : V m c main_v4 (ix3 b 0 n) = BitVec.setWidth 32 (m (c.tc.loc main_arg2) (ix2 b n) : BitVec 1) := by
    have e : V m c main_v4 = (extui 32 (shapeCast S4x1x1024 (m (c.tc.loc main_arg2)) shapeCasts_S4x1024_S4x1x1024) natLt_1_32 : Vec F S4x1x1024 .i32) := by
      entry_read
      rfl
    rw [e]
    pointwise
  refine (congrArg (V m c main_v4) (funext fun a => Fin.ext ?_)).trans hv
  match a with
  | ⟨0, _⟩ =>
    show (BitVec.ofNat 32 (grid0.coords t 0).val).toNat * 1 + 1 * 0 = b.val
    rw [show (grid0.coords t 0).val = t.val from coords_eq t, hb]
    have := b.isLt
    rw [BitVec.toNat_ofNat]
    omega
  | ⟨1, _⟩ =>
    show 0 * 1 + 1 * 0 = 0
    rfl
  | ⟨2, _⟩ =>
    show 0 * 1024 + 1 * n.val = n.val
    omega

/-- Block 4 is its whole array of weights. -/
theorem iblk4_at (f h : Fin 128) :
    (iblk m hO c 4 t : S128x128.Idx → Elt F .f32) (ix2 f h) = m (c.tc.loc main_arg5) (ix2 f h) := by
  refine (congrArg (V m c main_arg5) (funext fun a => Fin.ext ?_)).trans (congrFun (V_main_arg5 m c) _)
  match a with
  | ⟨0, _⟩ =>
    show 0 * 128 + 1 * f.val = f.val
    omega
  | ⟨1, _⟩ =>
    show 0 * 128 + 1 * h.val = h.val
    omega

/-- Block 6 is its whole array of weights. -/
theorem iblk6_at (f h : Fin 128) :
    (iblk m hO c 6 t : S128x128.Idx → Elt F .f32) (ix2 f h) = m (c.tc.loc main_arg7) (ix2 f h) := by
  refine (congrArg (V m c main_arg7) (funext fun a => Fin.ext ?_)).trans (congrFun (V_main_arg7 m c) _)
  match a with
  | ⟨0, _⟩ =>
    show 0 * 128 + 1 * f.val = f.val
    omega
  | ⟨1, _⟩ =>
    show 0 * 128 + 1 * h.val = h.val
    omega

/-- Block 8 is its whole array of weights. -/
theorem iblk8_at (f h : Fin 128) :
    (iblk m hO c 8 t : S128x128.Idx → Elt F .f32) (ix2 f h) = m (c.tc.loc main_arg9) (ix2 f h) := by
  refine (congrArg (V m c main_arg9) (funext fun a => Fin.ext ?_)).trans (congrFun (V_main_arg9 m c) _)
  match a with
  | ⟨0, _⟩ =>
    show 0 * 128 + 1 * f.val = f.val
    omega
  | ⟨1, _⟩ =>
    show 0 * 128 + 1 * h.val = h.val
    omega

/-- Block 5 is its bias as one row. -/
theorem iblk5_at (h : Fin 128) :
    (iblk m hO c 5 t : S1x128.Idx → Elt F .f32) (ix2 0 h) = m (c.tc.loc main_arg6) (ix1 h) := by
  have hv : V m c main_v1 (ix2 0 h) = m (c.tc.loc main_arg6) (ix1 h) := by
    have e : V m c main_v1 = (shapeCast S1x128 (m (c.tc.loc main_arg6)) shapeCasts_S128_S1x128 : Vec F S1x128 .f32) := by
      entry_read
      rfl
    rw [e]
    pointwise
  refine (congrArg (V m c main_v1) (funext fun a => Fin.ext ?_)).trans hv
  match a with
  | ⟨0, _⟩ =>
    show 0 * 1 + 1 * 0 = 0
    rfl
  | ⟨1, _⟩ =>
    show 0 * 128 + 1 * h.val = h.val
    omega

/-- Block 7 is its bias as one row. -/
theorem iblk7_at (h : Fin 128) :
    (iblk m hO c 7 t : S1x128.Idx → Elt F .f32) (ix2 0 h) = m (c.tc.loc main_arg8) (ix1 h) := by
  have hv : V m c main_v2 (ix2 0 h) = m (c.tc.loc main_arg8) (ix1 h) := by
    have e : V m c main_v2 = (shapeCast S1x128 (m (c.tc.loc main_arg8)) shapeCasts_S128_S1x128 : Vec F S1x128 .f32) := by
      entry_read
      rfl
    rw [e]
    pointwise
  refine (congrArg (V m c main_v2) (funext fun a => Fin.ext ?_)).trans hv
  match a with
  | ⟨0, _⟩ =>
    show 0 * 1 + 1 * 0 = 0
    rfl
  | ⟨1, _⟩ =>
    show 0 * 128 + 1 * h.val = h.val
    omega

/-- Block 9 is its bias as one row. -/
theorem iblk9_at (h : Fin 128) :
    (iblk m hO c 9 t : S1x128.Idx → Elt F .f32) (ix2 0 h) = m (c.tc.loc main_arg10) (ix1 h) := by
  have hv : V m c main_v3 (ix2 0 h) = m (c.tc.loc main_arg10) (ix1 h) := by
    have e : V m c main_v3 = (shapeCast S1x128 (m (c.tc.loc main_arg10)) shapeCasts_S128_S1x128 : Vec F S1x128 .f32) := by
      entry_read
      rfl
    rw [e]
    pointwise
  refine (congrArg (V m c main_v3) (funext fun a => Fin.ext ?_)).trans hv
  match a with
  | ⟨0, _⟩ =>
    show 0 * 1 + 1 * 0 = 0
    rfl
  | ⟨1, _⟩ =>
    show 0 * 128 + 1 * h.val = h.val
    omega

end Graph

end Cert.KernelIdeal.Pooled

end
-- ==== Proof.Spec.lean ====
/-
  The function that both programs compute, on the extended reals: two graph convolutions over one graph's nodes, then the
  mean of the node features over the nodes that the mask keeps.
-/
module

public import Idealize.ShloMosaic.Lib.Pointwise

@[expose] public section

noncomputable section

namespace Cert.Pool

open Idealize.ShloMosaic

/-- Features of a graph's 1024 nodes. -/
abbrev Feat := Fin 1024 → Fin 128 → EReal
/-- A graph's adjacency matrix. -/
abbrev Adj := Fin 1024 → Fin 1024 → EReal
/-- A layer's weights and its bias. -/
abbrev Wgt := Fin 128 → Fin 128 → EReal
abbrev Bias := Fin 128 → EReal

/-- Every node's features times the weights. -/
def lin (x : Feat) (w : Wgt) : Feat := fun n h => ∑ f, x n f * w f h

/-- Every node's sum of its neighbours' features, weighted by the adjacency matrix. -/
def agg (a : Adj) (y : Feat) : Feat := fun n h => ∑ j, a n j * y j h

/-- A bias added to every node and the negative part cut. -/
def act (y : Feat) (b : Bias) : Feat := fun n h => max (y n h + b h) 0

/-- The features after the input layer. -/
def first (x : Feat) (wi : Wgt) (bi : Bias) : Feat := act (lin x wi) bi

/-- The features after the first graph convolution. -/
def second (a : Adj) (x0 : Feat) (w1 : Wgt) (b1 : Bias) : Feat := act (agg a (lin x0 w1)) b1

/-- The features after the second graph convolution, the input layer's added. -/
def third (a : Adj) (x0 x1 : Feat) (w2 : Wgt) (b2 : Bias) : Feat :=
  fun n h => Ideal.tanh (agg a (lin x1 w2) n h + b2 h) + x0 n h

/-- The mean of the features over the nodes, each node counted by its mask value. -/
def mean (x : Feat) (k : Fin 1024 → EReal) : Bias := fun h => Ideal.div (∑ n, x n h * k n) (∑ n, k n)

/-- One graph's pooled features. -/
def pooled (x : Feat) (a : Adj) (k : Fin 1024 → EReal) (wi : Wgt) (bi : Bias) (w1 : Wgt) (b1 : Bias) (w2 : Wgt) (b2 : Bias) :
    Bias :=
  mean (third a (first x wi bi) (second a (first x wi bi) w1 b1) w2 b2) k

end Cert.Pool

end
-- ==== Proof.KernelValue.lean ====
/-
  What the ideal kernel's body computes from a point's blocks: the pooled features of the graph that the blocks hold.
-/
module

public import proofs.«01_k».proof.Proof.Body
public import proofs.«01_k».proof.Proof.Spec

@[expose] public section

noncomputable section

namespace Cert.KernelIdeal.Pooled

open Idealize.ShloMosaic Cert.KernelIdeal Cert.KernelIdeal.Gen Cert.Pool

/-- The features that the first block holds. -/
def featOf (x0 : Vec Ideal S1x1024x128 .f32) : Feat := fun n f => x0 (ix3 0 n f)

/-- The adjacency matrix whose upper half one block holds and whose lower half the other. -/
def adjOf (x1 x2 : Vec Ideal S1x512x1024 .f32) : Adj := fun n j =>
  if h : (n : Nat) < 512 then x1 (ix3 0 ⟨n, h⟩ j) else x2 (ix3 0 ⟨n - 512, by omega⟩ j)

/-- The weights and the bias that a block holds. -/
def wgtOf (w : Vec Ideal S128x128 .f32) : Wgt := fun f h => w (ix2 f h)
def biasOf (b : Vec Ideal S1x128 .f32) : Bias := fun h => b (ix2 0 h)

set_option maxRecDepth 16384 in
/-- The input layer's payload is the input layer. -/
theorem pay3_at (x0 : Vec Ideal S1x1024x128 .f32) (w : Vec Ideal S128x128 .f32) (b : Vec Ideal S1x128 .f32) (n : Fin 1024)
    (h : Fin 128) : k0_pay3 (F := Ideal) x0 w b (ix2 n h) = first (featOf x0) (wgtOf w) (biasOf b) n h := by
  pointwise [k0_pay3, first, act, lin, featOf, wgtOf, biasOf]

set_option maxRecDepth 16384 in
/-- The first graph convolution's payload is the first graph convolution. -/
theorem pay4_at (x0 : Vec Ideal S1x1024x128 .f32) (w : Vec Ideal S128x128 .f32) (b : Vec Ideal S1x128 .f32)
    (w1 : Vec Ideal S128x128 .f32) (x1 x2 : Vec Ideal S1x512x1024 .f32) (b1 : Vec Ideal S1x128 .f32) (n : Fin 1024)
    (h : Fin 128) : k0_pay4 (F := Ideal) x0 w b w1 x1 x2 b1 (ix2 n h)
      = second (adjOf x1 x2) (first (featOf x0) (wgtOf w) (biasOf b)) (wgtOf w1) (biasOf b1) n h := by
  have hp : ∀ k f, k0_pay3 (F := Ideal) x0 w b (ix2 k f) = first (featOf x0) (wgtOf w) (biasOf b) k f := pay3_at x0 w b
  unfold k0_pay4 second act agg adjOf lin
  generalize k0_pay3 (F := Ideal) x0 w b = p at hp ⊢
  generalize first (featOf x0) (wgtOf w) (biasOf b) = q at hp ⊢
  pointwise [wgtOf, biasOf]
  by_cases hn : (n : Nat) < 512
  · simp only [hn, ↓reduceDIte, hp]
  · simp only [hn, ↓reduceDIte, hp]

set_option maxRecDepth 16384 in
/-- The last payload, of a mask row and of the two earlier layers' features, is the second graph convolution's mean. -/
theorem pay1_at (k : FVec Ideal S1x1024 .f32) (p q : FVec Ideal S1024x128 .f32) (w2 : Vec Ideal S128x128 .f32)
    (x1 x2 : Vec Ideal S1x512x1024 .f32) (b2 : Vec Ideal S1x128 .f32) (h : Fin 128) :
    k0_pay1 (F := Ideal) k p q w2 x1 x2 b2 (ix2 0 h)
      = mean (third (adjOf x1 x2) (fun n f => p (ix2 n f)) (fun n f => q (ix2 n f)) (wgtOf w2) (biasOf b2))
          (fun n => k (ix2 0 n)) h := by
  pointwise [k0_pay1, mean, third, agg, lin, adjOf, wgtOf, biasOf]
  simp only [Fin.sum_univ_one, mul_comm (k _)]

/-- A bit widened to a word, tested for being nonzero, and the test's outcome widened and read as a signed number, is the
    bit read as a number. -/
theorem bit_number (b : BitVec 1) :
    FloatOps.sitofp (F := Ideal) .f32 (BitVec.setWidth 32 (IntOp.cmpi .ne (BitVec.setWidth 32 b) 0#32))
      = FloatOps.uitofp (F := Ideal) .f32 b := by
  rcases BitVec.eq_zero_or_eq_one b with rfl | rfl
  · show ((_ : ℝ) : EReal) = ((_ : ℝ) : EReal)
    congr 1
  · show ((_ : ℝ) : EReal) = ((_ : ℝ) : EReal)
    congr 1

/-- The mask payload where the block holds a widened bit: the bit as a number. -/
theorem pay2_at (x3 : Vec Ideal S1x1x1024 .i32) (n : Fin 1024) (b : BitVec 1) (hb : x3 (ix3 0 0 n) = BitVec.setWidth 32 b) :
    k0_pay2 (F := Ideal) x3 (ix2 0 n) = FloatOps.uitofp (F := Ideal) .f32 b := by
  pointwise [k0_pay2]
  rw [hb]
  exact bit_number b

/-- A point's row from its blocks, at each of its 128 places: the pooled features of the graph that the blocks hold, under
    the bits of which the mask block holds the widened words. -/
theorem rowOf_at (x0 : Vec Ideal S1x1024x128 .f32) (x1 x2 : Vec Ideal S1x512x1024 .f32) (x3 : Vec Ideal S1x1x1024 .i32)
    (x4 : Vec Ideal S128x128 .f32) (x5 : Vec Ideal S1x128 .f32) (x6 : Vec Ideal S128x128 .f32) (x7 : Vec Ideal S1x128 .f32)
    (x8 : Vec Ideal S128x128 .f32) (x9 : Vec Ideal S1x128 .f32) (b : Fin 1024 → BitVec 1)
    (hb : ∀ n, x3 (ix3 0 0 n) = BitVec.setWidth 32 (b n)) (h : Fin 128) :
    rowOf (F := Ideal) x0 x1 x2 x3 x4 x5 x6 x7 x8 x9 (ix2 0 h)
      = pooled (featOf x0) (adjOf x1 x2) (fun n => FloatOps.uitofp (F := Ideal) .f32 (b n)) (wgtOf x4) (biasOf x5) (wgtOf x6)
          (biasOf x7) (wgtOf x8) (biasOf x9) h := by
  unfold rowOf pooled
  rw [pay1_at]
  simp only [pay3_at, pay4_at, fun n => pay2_at x3 n (b n) (hb n)]

end Cert.KernelIdeal.Pooled

end
-- ==== Proof.Take.lean ====
/-
  Slices of a stack taken by index words: what the reference's `jnp.take` along the leading axis prints as, read at an index
  where every word names a slice.
-/
module

public import proofs.«01_k».proof.Proof.Gen.ReferenceIdeal
public import Idealize.ShloMosaic.Lib.Pointwise

@[expose] public section

noncomputable section

namespace Cert.ReferenceIdeal.Pooled

open Idealize.ShloMosaic Cert.ReferenceIdeal Cert.ReferenceIdeal.Facts₀

/-- The dimension numbers that gather whole `[R, C]` slices of an `[N, R, C]` stack by a column of `B` words. -/
abbrev sliceDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Such a gather, read where the word of the result's leading coordinate is a slice's number `g`: slice `g`'s element. -/
theorem slice_at {α : Type} {N R C B : Nat}
    (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ 32) (b : Fin B) (r : Fin R) (c : Fin C) (g : Fin N)
    (hg : (idx (ix2 b 0)).toInt.toNat = g.val) :
    Host.gather (sliceDims N R C B wf) x idx (ix3 b r c) = x (ix3 g r c) := by
  refine congrArg x (funext fun a => Fin.ext ?_)
  show (sliceDims N R C B wf).start (ix3 b r c) idx a + (sliceDims N R C B wf).batchCoord (ix3 b r c) a
    + (sliceDims N R C B wf).offCoord (ix3 b r c) a = _
  have hs : (sliceDims N R C B wf).siIdx (ix3 b r c) ⟨0, Nat.one_pos⟩ = ix2 b 0 := by
    funext y
    match y with
    | ⟨0, _⟩ => rfl
    | ⟨1, _⟩ => rfl
  match a with
  | ⟨0, _⟩ =>
    show min (idx ((sliceDims N R C B wf).siIdx (ix3 b r c) ⟨0, Nat.one_pos⟩)).toInt.toNat (N - 1) + 0 + 0 = g.val
    rw [hs, hg]
    have := g.isLt
    omega
  | ⟨1, _⟩ => exact Nat.zero_add _
  | ⟨2, _⟩ => exact Nat.zero_add _

/-- The words as the reference wraps them: a negative word counts from the stack's end. -/
def wrapped (w : Vec Ideal S4x1 .i32) : Vec Ideal S4x1 .i32 :=
  broadcastInDim S4x1 ![0] bcast_S4_S4x1_0 (select (cmpi .slt (shapeCast _ w shapeCasts_S4x1_S4) (broadcastInDim S4 ![] bcast_S_S4 (constantI S_ 32 0#32))) (addi (shapeCast _ w shapeCasts_S4x1_S4) (broadcastInDim S4 ![] bcast_S_S4 (constantI S_ 32 8#32))) (shapeCast _ w shapeCasts_S4x1_S4))

/-- Which of the wrapped words name a slice. -/
def named (w : Vec Ideal S4x1 .i32) : Vec Ideal S4 .i1 :=
  Host.reduce IntOp.andi (andi (cmpi .sge (wrapped w) (broadcastInDim S4x1 ![] bcast_S_S4x1 (constantI S_ 32 0#32))) (cmpi .sle (wrapped w) (broadcastInDim S4x1 ![0, 1] bcast_S1x1_S4x1_0_1 (broadcastInDim S1x1 ![1] bcast_S1_S1x1_1 (constantI S1 32 7#32))))) (constantI S_ 1 1#1) reducesTo_S4x1_S4_d1 h_S_

/-- The node features taken by the words, not-a-number where a word names no graph. -/
def takenFeat (w : Vec Ideal S4x1 .i32) (x : Vec Ideal S8x1024x128 .f32) : Vec Ideal S4x1024x128 .f32 :=
  select (broadcastInDim S4x1024x128 ![0] bcast_S4_S4x1024x128_0 (named w)) (Host.gather gather_S8x1024x128_S4x1_S4x1024x128_12_0_n_n_0_1_11024128 x (wrapped w)) (broadcastInDim S4x1024x128 ![] bcast_S_S4x1024x128 (constant (F := Ideal) S_ .f32 0x7FC00000#32))

/-- The adjacency matrices likewise. -/
def takenAdj (w : Vec Ideal S4x1 .i32) (x : Vec Ideal S8x1024x1024 .f32) : Vec Ideal S4x1024x1024 .f32 :=
  select (broadcastInDim S4x1024x1024 ![0] bcast_S4_S4x1024x1024_0 (named w)) (Host.gather gather_S8x1024x1024_S4x1_S4x1024x1024_12_0_n_n_0_1_110241024 x (wrapped w)) (broadcastInDim S4x1024x1024 ![] bcast_S_S4x1024x1024 (constant (F := Ideal) S_ .f32 0x7FC00000#32))

/-- What the wrapping, the test and the reading as a signed number do with a word below eight. -/
theorem small_word (v : BitVec 32) (h : v.toNat < 8) :
    Scalar.select (IntOp.cmpi .slt v 0#32) (IntOp.addi v 8#32) v = v
      ∧ IntOp.andi (IntOp.cmpi .sge v 0#32) (IntOp.cmpi .sle v 7#32) = 1#1 ∧ v.toInt.toNat = v.toNat := by
  obtain ⟨g, rfl⟩ : ∃ g : Fin 8, v = BitVec.ofNat 32 g.val :=
    ⟨⟨v.toNat, h⟩, by simp⟩
  revert g
  decide

/-- A word below eight is not wrapped, -/
theorem wrapped_at (w : Vec Ideal S4x1 .i32) (b : Fin 4) (h : BitVec.toNat (w := 32) (w (ix2 b 0)) < 8) :
    wrapped w (ix2 b 0) = w (ix2 b 0) := by
  pointwise [wrapped]
  exact (small_word _ h).1

/-- and names a slice. -/
theorem named_at (w : Vec Ideal S4x1 .i32) (b : Fin 4) (h : BitVec.toNat (w := 32) (w (ix2 b 0)) < 8) :
    named w (ix1 b) = 1#1 := by
  have hw := wrapped_at w b h
  unfold named
  generalize wrapped w = v at hw ⊢
  pointwise
  rw [show (Finset.univ : Finset (Fin 1)) = {0} from rfl, Finset.fold_singleton, hw, (small_word _ h).2.1]
  rfl

/-- The taken features where the word is a graph's number: that graph's. -/
theorem takenFeat_at (w : Vec Ideal S4x1 .i32) (x : Vec Ideal S8x1024x128 .f32) (b : Fin 4) (g : Fin 8)
    (hg : BitVec.toNat (w := 32) (w (ix2 b 0)) = g.val) (n : Fin 1024) (f : Fin 128) :
    takenFeat w x (ix3 b n f) = x (ix3 g n f) := by
  have h8 : BitVec.toNat (w := 32) (w (ix2 b 0)) < 8 := by omega
  have hn := named_at w b h8
  have hw := wrapped_at w b h8
  unfold takenFeat
  generalize named w = k at hn ⊢
  generalize wrapped w = v at hw ⊢
  have hv : (BitVec.toInt (n := 32) (v (ix2 b 0))).toNat = g.val := by
    rw [hw, (small_word _ h8).2.2, hg]
  have hs : Host.gather gather_S8x1024x128_S4x1_S4x1024x128_12_0_n_n_0_1_11024128 x v (ix3 b n f) = x (ix3 g n f) :=
    slice_at gather_S8x1024x128_S4x1_S4x1024x128_12_0_n_n_0_1_11024128_wf x v b n f g hv
  pointwise
  rw [hn, hs]
  rfl

/-- The taken adjacency matrix likewise. -/
theorem takenAdj_at (w : Vec Ideal S4x1 .i32) (x : Vec Ideal S8x1024x1024 .f32) (b : Fin 4) (g : Fin 8)
    (hg : BitVec.toNat (w := 32) (w (ix2 b 0)) = g.val) (n : Fin 1024) (f : Fin 1024) :
    takenAdj w x (ix3 b n f) = x (ix3 g n f) := by
  have h8 : BitVec.toNat (w := 32) (w (ix2 b 0)) < 8 := by omega
  have hn := named_at w b h8
  have hw := wrapped_at w b h8
  unfold takenAdj
  generalize named w = k at hn ⊢
  generalize wrapped w = v at hw ⊢
  have hv : (BitVec.toInt (n := 32) (v (ix2 b 0))).toNat = g.val := by
    rw [hw, (small_word _ h8).2.2, hg]
  have hs : Host.gather gather_S8x1024x1024_S4x1_S4x1024x1024_12_0_n_n_0_1_110241024 x v (ix3 b n f) = x (ix3 g n f) :=
    slice_at gather_S8x1024x1024_S4x1_S4x1024x1024_12_0_n_n_0_1_110241024_wf x v b n f g hv
  pointwise
  rw [hn, hs]
  rfl

end Cert.ReferenceIdeal.Pooled

end
-- ==== Proof.RefValue.lean ====
/-
  What the ideal reference computes: each row of its result is the pooled features of the graph that the row's word names.
-/
module

public import proofs.«01_k».proof.Proof.Gen.ReferenceIdeal.Run
public import proofs.«01_k».proof.Proof.Take
public import proofs.«01_k».proof.Proof.Spec

@[expose] public section

noncomputable section

namespace Cert.ReferenceIdeal.Pooled

open Idealize.ShloMosaic Idealize.SL.Sem Cert.ReferenceIdeal Cert.ReferenceIdeal.Facts₀ Cert.Pool

/-- A layer's product with its weights. -/
def refLin (x : Vec Ideal S4x1024x128 .f32) (w : Vec Ideal S128x128 .f32) : Vec Ideal S4x1024x128 .f32 :=
  Host.dotGeneral (F := Ideal) (φ₁ := .f32) (φ₂ := .f32) dot_S4x1024x128_S128x128_S4x1024x128_2_0_01_1_n_n none x w

/-- The neighbours' features summed, graph by graph. -/
def refAgg (a : Vec Ideal S4x1024x1024 .f32) (y : Vec Ideal S4x1024x128 .f32) : Vec Ideal S4x1024x128 .f32 :=
  Host.dotGeneral (F := Ideal) (φ₁ := .f32) (φ₂ := .f32) dot_S4x1024x1024_S4x1024x128_S4x1024x128_2_1_1_2_0_0 none a y

/-- A bias added to every node of every graph. -/
def refBias (y : Vec Ideal S4x1024x128 .f32) (b : Vec Ideal S128 .f32) : Vec Ideal S4x1024x128 .f32 :=
  addf (F := Ideal) (φ := .f32) y (broadcastInDim S4x1024x128 ![0, 1, 2] bcast_S1x1x128_S4x1024x128_0_1_2 (broadcastInDim S1x1x128 ![2] bcast_S128_S1x1x128_2 b))

/-- The negative part cut. -/
def refRelu (y : Vec Ideal S4x1024x128 .f32) : Vec Ideal S4x1024x128 .f32 :=
  maximumf (F := Ideal) (φ := .f32) y (broadcastInDim S4x1024x128 ![] bcast_S_S4x1024x128 (constant (F := Ideal) S_ .f32 0x00000000#32))

/-- The mask as numbers. -/
def refMask (k : Vec Ideal S4x1024 .i1) : Vec Ideal S4x1024 .f32 := uitofp (F := Ideal) .f32 k

/-- The mean over the nodes that the mask keeps. -/
def refMean (x : Vec Ideal S4x1024x128 .f32) (k : Vec Ideal S4x1024 .f32) : Vec Ideal S4x128 .f32 :=
  Host.divf (F := Ideal) (φ := .f32)
    (Host.reduceAdd (F := Ideal) (φ := .f32) (mulf (F := Ideal) (φ := .f32) x (broadcastInDim S4x1024x128 ![0, 1, 2] bcast_S4x1024x1_S4x1024x128_0_1_2 (broadcastInDim S4x1024x1 ![0, 1] bcast_S4x1024_S4x1024x1_0_1 k))) (constant (F := Ideal) S_ .f32 0x00000000#32) reducesTo_S4x1024x128_S4x128_d1 h_S_)
    (broadcastInDim S4x128 ![0, 1] bcast_S4x1_S4x128_0_1 (broadcastInDim S4x1 ![0] bcast_S4_S4x1_0 (Host.reduceAdd (F := Ideal) (φ := .f32) k (constant (F := Ideal) S_ .f32 0x00000000#32) reducesTo_S4x1024_S4_d1 h_S_)))

/-- The features after the input layer, after the first graph convolution, and the result. -/
def refFirst (x : Vec Ideal S4x1024x128 .f32) (wi : Vec Ideal S128x128 .f32) (bi : Vec Ideal S128 .f32) :
    Vec Ideal S4x1024x128 .f32 := refRelu (refBias (refLin x wi) bi)

def refSecond (a : Vec Ideal S4x1024x1024 .f32) (x0 : Vec Ideal S4x1024x128 .f32) (w1 : Vec Ideal S128x128 .f32)
    (b1 : Vec Ideal S128 .f32) : Vec Ideal S4x1024x128 .f32 := refRelu (refBias (refAgg a (refLin x0 w1)) b1)

def refThird (a : Vec Ideal S4x1024x1024 .f32) (x0 x1 : Vec Ideal S4x1024x128 .f32) (w2 : Vec Ideal S128x128 .f32)
    (b2 : Vec Ideal S128 .f32) : Vec Ideal S4x1024x128 .f32 :=
  addf (F := Ideal) (φ := .f32) (Host.tanh (F := Ideal) (φ := .f32) (refBias (refAgg a (refLin x1 w2)) b2)) x0

def refOut (g : Vec Ideal S4x1 .i32) (k : Vec Ideal S4x1024 .i1) (xs : Vec Ideal S8x1024x128 .f32)
    (adj : Vec Ideal S8x1024x1024 .f32) (wi : Vec Ideal S128x128 .f32) (bi : Vec Ideal S128 .f32)
    (w1 : Vec Ideal S128x128 .f32) (b1 : Vec Ideal S128 .f32) (w2 : Vec Ideal S128x128 .f32) (b2 : Vec Ideal S128 .f32) :
    Vec Ideal S4x128 .f32 :=
  refMean (refThird (takenAdj g adj) (refFirst (takenFeat g xs) wi bi)
    (refSecond (takenAdj g adj) (refFirst (takenFeat g xs) wi bi) w1 b1) w2 b2) (refMask k)

set_option maxRecDepth 8192 in
/-- The reference's result is these layers of its arguments. -/
theorem result_eq (m : (ℓ : Loc nD τ sig) → Buf (Elt Ideal) ℓ) (c : Dev nD) :
    Value.res_out0 (F := Ideal) m c = refOut (m (c.tc.loc main_arg0)) (m (c.tc.loc main_arg2)) (m (c.tc.loc main_arg3))
      (m (c.tc.loc main_arg4)) (m (c.tc.loc main_arg5)) (m (c.tc.loc main_arg6)) (m (c.tc.loc main_arg7))
      (m (c.tc.loc main_arg8)) (m (c.tc.loc main_arg9)) (m (c.tc.loc main_arg10)) := by
  unfold Value.res_out0 Value.res_main_v29
  rfl

/-- One graph's part of an array over the four. -/
def featRow (x : Vec Ideal S4x1024x128 .f32) (b : Fin 4) : Feat := fun n f => x (ix3 b n f)
def adjRow (a : Vec Ideal S4x1024x1024 .f32) (b : Fin 4) : Adj := fun n j => a (ix3 b n j)
def wgt (w : Vec Ideal S128x128 .f32) : Wgt := fun f h => w (ix2 f h)
def bias (v : Vec Ideal S128 .f32) : Bias := fun h => v (ix1 h)

set_option maxRecDepth 16384 in
theorem refFirst_row (x : Vec Ideal S4x1024x128 .f32) (wi : Vec Ideal S128x128 .f32) (bi : Vec Ideal S128 .f32) (b : Fin 4) :
    featRow (refFirst x wi bi) b = first (featRow x b) (wgt wi) (bias bi) := by
  funext n h
  pointwise [refFirst, refRelu, refBias, refLin, first, act, lin, featRow, wgt, bias]

set_option maxRecDepth 16384 in
theorem refSecond_row (a : Vec Ideal S4x1024x1024 .f32) (x0 : Vec Ideal S4x1024x128 .f32) (w1 : Vec Ideal S128x128 .f32)
    (b1 : Vec Ideal S128 .f32) (b : Fin 4) :
    featRow (refSecond a x0 w1 b1) b = second (adjRow a b) (featRow x0 b) (wgt w1) (bias b1) := by
  funext n h
  pointwise [refSecond, refRelu, refBias, refAgg, refLin, second, act, agg, lin, featRow, adjRow, wgt, bias]

set_option maxRecDepth 16384 in
theorem refThird_row (a : Vec Ideal S4x1024x1024 .f32) (x0 x1 : Vec Ideal S4x1024x128 .f32) (w2 : Vec Ideal S128x128 .f32)
    (b2 : Vec Ideal S128 .f32) (b : Fin 4) :
    featRow (refThird a x0 x1 w2 b2) b = third (adjRow a b) (featRow x0 b) (featRow x1 b) (wgt w2) (bias b2) := by
  funext n h
  pointwise [refThird, refBias, refAgg, refLin, third, agg, lin, featRow, adjRow, wgt, bias]

set_option maxRecDepth 16384 in
theorem refMean_at (x : Vec Ideal S4x1024x128 .f32) (k : Vec Ideal S4x1024 .f32) (b : Fin 4) (h : Fin 128) :
    refMean x k (ix2 b h) = mean (featRow x b) (fun n => k (ix2 b n)) h := by
  pointwise [refMean, mean, featRow]

/-- Row `b` of the reference's result, where word `b` is graph `r`'s number: graph `r`'s pooled features. -/
theorem refOut_at (g : Vec Ideal S4x1 .i32) (k : Vec Ideal S4x1024 .i1) (xs : Vec Ideal S8x1024x128 .f32)
    (adj : Vec Ideal S8x1024x1024 .f32) (wi : Vec Ideal S128x128 .f32) (bi : Vec Ideal S128 .f32)
    (w1 : Vec Ideal S128x128 .f32) (b1 : Vec Ideal S128 .f32) (w2 : Vec Ideal S128x128 .f32) (b2 : Vec Ideal S128 .f32)
    (b : Fin 4) (r : Fin 8) (hr : BitVec.toNat (w := 32) (g (ix2 b 0)) = r.val) (h : Fin 128) :
    refOut g k xs adj wi bi w1 b1 w2 b2 (ix2 b h)
      = pooled (fun n f => xs (ix3 r n f)) (fun n j => adj (ix3 r n j))
          (fun n => FloatOps.uitofp (F := Ideal) .f32 (k (ix2 b n) : BitVec 1)) (wgt wi) (bias bi) (wgt w1) (bias b1) (wgt w2)
          (bias b2) h := by
  have hx : featRow (takenFeat g xs) b = fun n f => xs (ix3 r n f) :=
    funext fun n => funext fun f => takenFeat_at g xs b r hr n f
  have ha : adjRow (takenAdj g adj) b = fun n j => adj (ix3 r n j) :=
    funext fun n => funext fun f => takenAdj_at g adj b r hr n f
  unfold refOut pooled
  rw [refMean_at, refThird_row, refSecond_row, refFirst_row, hx, ha]
  rfl

end Cert.ReferenceIdeal.Pooled

end
-- ==== Proof.Value.lean ====
/-
  The ideal kernel's result against the ideal reference's: both runs end with the same array, whose row `b` is the pooled
  features of the graph that word `b` names.
-/
module

public import proofs.«01_k».proof.Defs
public import proofs.«01_k».proof.Proof.Words
public import proofs.«01_k».proof.Proof.Blocks
public import proofs.«01_k».proof.Proof.KernelValue
public import proofs.«01_k».proof.Proof.RefValue

@[expose] public section

set_option maxRecDepth 16384

noncomputable section

namespace Cert.KernelIdeal.Pooled

open Idealize.ShloMosaic Idealize.SL.Sem Cert.KernelIdeal Cert.KernelIdeal.Gen Cert.Pool

variable (m : (ℓ : Loc nD τ sig) → Buf (Elt Ideal) ℓ)

/-- The two half blocks at a point are the named graph's whole adjacency matrix. -/
theorem adj_eq (hO : Ok m) (c : Dev nD) (t : Fin (cfgM m hO).N) (b : Fin 4) (hb : b.val = t.val) (g : Fin 8)
    (hg : BitVec.toNat (w := 32) (tbl m 0 (ix2 b 0)) = g.val) :
    adjOf (iblk m hO c 1 t) (iblk m hO c 2 t) = fun n j => m (c.tc.loc main_arg4) (ix3 g n j) := by
  funext n j
  by_cases h : (n : Nat) < 512
  · exact (dif_pos h).trans (iblk1_at m hO c t b hb g hg ⟨n, h⟩ j)
  · refine (dif_neg h).trans ((iblk2_at m hO c t b hb g hg ⟨n - 512, by omega⟩ j).trans ?_)
    refine congrArg (fun q : Fin 1024 => m (c.tc.loc main_arg4) (ix3 g q j)) (Fin.ext ?_)
    show 512 + ((n : Nat) - 512) = n
    omega

/-- The row that a point computes, at each place: the pooled features of the graph that the point's word names. -/
theorem pointRow_at (hO : Ok m) (c : Dev nD) (t : Fin (cfgM m hO).N) (b : Fin 4) (hb : b.val = t.val) (g : Fin 8)
    (hg : BitVec.toNat (w := 32) (tbl m 0 (ix2 b 0)) = g.val) (h : Fin 128) :
    pointRow m hO c t (ix2 0 h)
      = pooled (fun n f => m (c.tc.loc main_arg3) (ix3 g n f)) (fun n j => m (c.tc.loc main_arg4) (ix3 g n j))
          (fun n => FloatOps.uitofp (F := Ideal) .f32 (m (c.tc.loc main_arg2) (ix2 b n) : BitVec 1))
          (fun f h => m (c.tc.loc main_arg5) (ix2 f h)) (fun h => m (c.tc.loc main_arg6) (ix1 h))
          (fun f h => m (c.tc.loc main_arg7) (ix2 f h)) (fun h => m (c.tc.loc main_arg8) (ix1 h))
          (fun f h => m (c.tc.loc main_arg9) (ix2 f h)) (fun h => m (c.tc.loc main_arg10) (ix1 h)) h := by
  have e0 : featOf (iblk m hO c 0 t) = fun n f => m (c.tc.loc main_arg3) (ix3 g n f) :=
    funext fun n => funext fun f => iblk0_at m hO c t b hb g hg n f
  have e4 : wgtOf (iblk m hO c 4 t) = fun f h => m (c.tc.loc main_arg5) (ix2 f h) :=
    funext fun f => funext fun h => iblk4_at m hO c t f h
  have e6 : wgtOf (iblk m hO c 6 t) = fun f h => m (c.tc.loc main_arg7) (ix2 f h) :=
    funext fun f => funext fun h => iblk6_at m hO c t f h
  have e8 : wgtOf (iblk m hO c 8 t) = fun f h => m (c.tc.loc main_arg9) (ix2 f h) :=
    funext fun f => funext fun h => iblk8_at m hO c t f h
  have e5 : biasOf (iblk m hO c 5 t) = fun h => m (c.tc.loc main_arg6) (ix1 h) :=
    funext fun h => iblk5_at m hO c t h
  have e7 : biasOf (iblk m hO c 7 t) = fun h => m (c.tc.loc main_arg8) (ix1 h) :=
    funext fun h => iblk7_at m hO c t h
  have e9 : biasOf (iblk m hO c 9 t) = fun h => m (c.tc.loc main_arg10) (ix1 h) :=
    funext fun h => iblk9_at m hO c t h
  refine (rowOf_at _ _ _ _ _ _ _ _ _ _ (fun n => (m (c.tc.loc main_arg2) (ix2 b n) : BitVec 1))
    (fun n => iblk3_at m hO c t b hb n) h).trans ?_
  rw [adj_eq m hO c t b hb g hg, e0, e4, e5, e6, e7, e8, e9]

end Cert.KernelIdeal.Pooled

namespace Cert.Proof

open Idealize.ShloMosaic Idealize.SL.Sem

/-- The row that the kernel stores at grid point `b` is row `b` of the reference's function of the same argument arrays. -/
theorem rows_agree (m : (ℓ : Loc KernelIdeal.nD KernelIdeal.τ KernelIdeal.sig) → Buf (Elt Ideal) ℓ) (h : Cert.Pre_KernelIdeal m)
    (c : Dev KernelIdeal.nD) (t : Fin (KernelIdeal.Pooled.cfgM m (Cert.Words.ideal_ok m h)).N) (b : Fin 4) (hb : b.val = t.val)
    (l : Fin 128) :
    KernelIdeal.Pooled.pointRow m (Cert.Words.ideal_ok m h) c t (ix2 0 l)
      = ReferenceIdeal.Pooled.refOut (m (c.tc.loc KernelIdeal.main_arg0)) (m (c.tc.loc KernelIdeal.main_arg2))
          (m (c.tc.loc KernelIdeal.main_arg3)) (m (c.tc.loc KernelIdeal.main_arg4)) (m (c.tc.loc KernelIdeal.main_arg5))
          (m (c.tc.loc KernelIdeal.main_arg6)) (m (c.tc.loc KernelIdeal.main_arg7)) (m (c.tc.loc KernelIdeal.main_arg8))
          (m (c.tc.loc KernelIdeal.main_arg9)) (m (c.tc.loc KernelIdeal.main_arg10)) (ix2 b l) := by
  obtain rfl : c = 0 := Subsingleton.elim _ _
  have hw := Cert.Words.ideal_word_lt m h (ix2 b 0)
  have hg : BitVec.toNat (w := 32) (KernelIdeal.Pooled.tbl m 0 (ix2 b 0)) = (⟨_, hw⟩ : Fin 8).val :=
    congrArg (BitVec.toNat (w := 32)) (Cert.Words.ideal_tbl m (ix2 b 0))
  refine (KernelIdeal.Pooled.pointRow_at m (Cert.Words.ideal_ok m h) 0 t b hb ⟨_, hw⟩ hg l).trans ?_
  exact (ReferenceIdeal.Pooled.refOut_at _ _ _ _ _ _ _ _ _ _ b ⟨_, hw⟩ rfl l).symm

/-- The ideal kernel's result is the ideal reference's on equal arguments. -/
theorem algebraic : Cert.algebraic_KernelIdeal_ReferenceIdeal := by
  intro m g m' g' hpre hagree
  refine ⟨fun c => ReferenceIdeal.Value.res_out0 (F := Ideal) m' c, ?_, ?_⟩
  · refine (θ_run Cert.KernelIdeal.defs _ _).mono (fun r hr c => ⟨?_, KernelIdeal.Pooled.args_kept m (Cert.Words.ideal_ok m hpre) _
      (KernelIdeal.Pooled.rdat_A m (Cert.Words.ideal_ok m hpre)) hr.1 c⟩) (KernelIdeal.Pooled.run m g (Cert.Words.ideal_ok m hpre))
    obtain ⟨h0, _, h2, h3, h4, h5, h6, h7, h8, h9, h10⟩ := hagree c
    refine Eq.trans ?_ (ReferenceIdeal.Pooled.result_eq m' c).symm
    rw [ h0, h2, h3, h4, h5, h6, h7, h8, h9, h10]
    funext j
    obtain ⟨b, l, rfl⟩ : ∃ (b : Fin 4) (l : Fin 128), j = ix2 b l := ⟨j 0, j 1, eq_ix2 j⟩
    exact (KernelIdeal.Pooled.out_row m (Cert.Words.ideal_ok m hpre) hr.1 c b (ix2 b l) (ix2 0 l) rfl rfl).trans
      (rows_agree m hpre c b b rfl l)
  · exact ReferenceIdeal.Value.run m' g'

end Cert.Proof

end
-- ==== Proof.Same.lean ====
/-
  The kernel and the ideal kernel are one program: no operation was rewritten, so the two texts, each printed under a
  namespace of its own, are equal as programs in every arithmetic. What a run of the second gives, a run of the first gives.
-/
module

public import proofs.«01_k».proof.Proof.Gen.Kernel
public import proofs.«01_k».proof.Proof.Gen.KernelIdeal

@[expose] public section

set_option maxHeartbeats 1600000

noncomputable section

namespace Cert.Same

open Idealize.ShloMosaic Idealize.SL.Sem

variable {F : FTy → Type} [FloatOps F] [Cert.Kernel.Facts] [Cert.KernelIdeal.Facts]

/-- The first window of the body is the same program. -/
theorem part_eq : @Cert.Kernel.k0_part1 F _ _ = @Cert.KernelIdeal.k0_part1 F _ _ := rfl

/-- The body is the same program. -/
theorem body_eq : @Cert.Kernel.cc0__cdfg_kernel F _ _ = @Cert.KernelIdeal.cc0__cdfg_kernel F _ _ := rfl

/-- The pipeline is the same: its table, grid, windows and index maps. -/
theorem pipeline_eq : Cert.Kernel.pcfg0 (F := F) = Cert.KernelIdeal.pcfg0 (F := F) := rfl

/-- At a grid point and a choice of staging buffers the two body tables run the same body. -/
theorem body_at (t : Fin Cert.Kernel.grid0.N) (s : (w : Fin 11) → Fin (Cert.Kernel.spec0 w).nbuf) :
    Cert.Kernel.defs₀ (F := F) .tc (0 : Fin 1) (t, s) = Cert.KernelIdeal.defs₀ (F := F) .tc (0 : Fin 1) (t, s) := by
  unfold Cert.Kernel.defs₀ Cert.KernelIdeal.defs₀
  simp only [Defs.onTc_tc]
  exact rfl

/-- The body tables are equal. -/
theorem bodies_eq : Cert.Kernel.defs₀ (F := F) = Cert.KernelIdeal.defs₀ (F := F) := by
  funext p
  cases p with
  | tc =>
    funext ℓ a
    match ℓ, a with
    | ⟨0, _⟩, (t, s) => exact body_at t s
  | scScalar _ => rfl
  | scVector _ _ => rfl

/-- With the pipeline's entry and loop added they are equal still. -/
theorem defs_eq : Cert.Kernel.defs (F := F) = Cert.KernelIdeal.defs (F := F) :=
  congrArg (Pipeline.defs (Cert.Kernel.pcfgs (F := F))) bodies_eq

/-- The host programs are equal. -/
theorem main_eq : Cert.Kernel.main (F := F) = Cert.KernelIdeal.main (F := F) := rfl

/-- A post that every run of the ideal kernel's text meets from a state, every run of the kernel's meets from it. -/
theorem run_of (s : MemSt Cert.Kernel.nD Cert.Kernel.τ Cert.Kernel.sig (Elt F))
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q :=
  (congrArg₂ (fun d p => θ_run d (onTc (τ := Cert.Kernel.τ) p) s Q) (defs_eq (F := F)) (main_eq (F := F))).mpr h

end Cert.Same

end
-- ==== Proof.lean ====
/-
  The proof of `Cert.Claim`: the frames of the kernel, of the ideal kernel and of the ideal reference, the idealization
  (no operation is rewritten), and the equality of the ideal kernel's result with the ideal reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_graph_names_graphs
public import proofs.«01_k».proof.Proof.Launch
public import proofs.«01_k».proof.Proof.Words
public import proofs.«01_k».proof.Proof.Value
public import proofs.«01_k».proof.Proof.Same
public import Idealize.ShloMosaic.Lib.Claim
public import Idealize.ShloMosaic.Adequacy
public import Idealize.ShloMosaic.Init

@[expose] public section

noncomputable section

namespace Cert.Proof

open Idealize.ShloMosaic Idealize.SL.Sem

open Cert.KernelIdeal in
/-- In any arithmetic, from a memory whose table names graphs, the ideal kernel's text runs, its arguments end unchanged
    and its counters at zero. -/
theorem frame_any {F : FTy → Type} [FloatOps F] (m : (ℓ : Loc nD τ sig) → Buf (Elt F) ℓ) (g : Dev nD → PrngReg)
    (h : ∀ y : S4x1.Idx, BitVec.toNat (w := 32) (m (((0 : Dev nD).tc : Thread nD τ).loc main_arg0) y) < 8) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono
    (fun r hr => ⟨fun c => Pooled.args_kept m (Cert.Words.ok_of_lt m h) _ (Pooled.rdat_A m (Cert.Words.ok_of_lt m h)) hr.1 c, hr.2⟩)
    (Pooled.run m g (Cert.Words.ok_of_lt m h))

/-- The kernel runs, its arguments end unchanged and its counters at zero: its text is the ideal kernel's, since nothing
    was rewritten, and it runs over the float words. -/
theorem frame_kernel : Cert.quiescent_Kernel := fun m g h =>
  Cert.Same.run_of (F := Bits) _ _ (frame_any (F := Bits) m g (Cert.Words.kernel_word_lt m h))

/-- The ideal kernel runs, its arguments end unchanged and its counters at zero. -/
theorem frame_ideal : Cert.quiescent_KernelIdeal := fun m g h => frame_any (F := Ideal) m g (Cert.Words.ideal_word_lt m h)

/-- The ideal reference runs, its arguments end unchanged and its counters at zero, from any memory, -/
theorem frame_reference : Cert.quiescent_ReferenceIdeal := by
  intro m g _
  exact (θ_run Cert.ReferenceIdeal.defs _ _).mono
    (fun r hr => ⟨fun c => (hr c).2, sem_eq_zero_of_no_sems rfl _⟩) (Cert.ReferenceIdeal.Value.run m g)

/-- and so from one that the precondition admits. -/
theorem frame_reference_pre : Cert.quiescent_ReferenceIdeal_pre_graph_names_graphs :=
  fun m g _ => frame_reference m g trivial

/-- The certificate: the five claims, under the facts that the programs state of themselves. -/
theorem claim : Cert.Claim :=
  ⟨Cert.Kernel.Gen.facts, Cert.KernelIdeal.Gen.facts, Cert.ReferenceIdeal.Gen.facts, Cert.Pre_graph_names_graphs.Gen.facts,
    frame_kernel, frame_ideal, frame_reference, frame_reference_pre, trivial, algebraic⟩

end Cert.Proof

end
